-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)) (v2 : (c : Dev Cert.Kernel6Ideal.nD) → Buf (Elt Ideal) ((c.tc : Thread Cert.Kernel6Ideal.nD Cert.Kernel6Ideal.τ).loc Cert.Kernel6Ideal.main_v32_2)) (v3 : (c : Dev Cert.Kernel6Ideal.nD) → Buf (Elt Ideal) ((c.tc : Thread Cert.Kernel6Ideal.nD Cert.Kernel6Ideal.τ).loc Cert.Kernel6Ideal.main_v32_3)) (v4 : (c : Dev Cert.Kernel6Ideal.nD) → Buf (Elt Ideal) ((c.tc : Thread Cert.Kernel6Ideal.nD Cert.Kernel6Ideal.τ).loc Cert.Kernel6Ideal.main_v32_4)) (v5 : (c : Dev Cert.Kernel6Ideal.nD) → Buf (Elt Ideal) ((c.tc : Thread Cert.Kernel6Ideal.nD Cert.Kernel6Ideal.τ).loc Cert.Kernel6Ideal.main_v32_5)) (v6 : (c : Dev Cert.Kernel6Ideal.nD) → Buf (Elt Ideal) ((c.tc : Thread Cert.Kernel6Ideal.nD Cert.Kernel6Ideal.τ).loc Cert.Kernel6Ideal.main_v32_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_v32_2) = v2 c
          ∧ r.2.mem ((c.tc : Thread Cert.Kernel6Ideal.nD Cert.Kernel6Ideal.τ).loc Cert.Kernel6Ideal.main_v32_3) = v3 c
          ∧ r.2.mem ((c.tc : Thread Cert.Kernel6Ideal.nD Cert.Kernel6Ideal.τ).loc Cert.Kernel6Ideal.main_v32_4) = v4 c
          ∧ r.2.mem ((c.tc : Thread Cert.Kernel6Ideal.nD Cert.Kernel6Ideal.τ).loc Cert.Kernel6Ideal.main_v32_5) = v5 c
          ∧ r.2.mem ((c.tc : Thread Cert.Kernel6Ideal.nD Cert.Kernel6Ideal.τ).loc Cert.Kernel6Ideal.main_v32_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v72) = v0 c
          ∧ r.2.mem ((c.tc : Thread Cert.Reference6Ideal.nD Cert.Reference6Ideal.τ).loc Cert.Reference6Ideal.main_v118) = v1 c
          ∧ r.2.mem ((c.tc : Thread Cert.Reference6Ideal.nD Cert.Reference6Ideal.τ).loc Cert.Reference6Ideal.main_v94) = v2 c
          ∧ r.2.mem ((c.tc : Thread Cert.Reference6Ideal.nD Cert.Reference6Ideal.τ).loc Cert.Reference6Ideal.main_v119) = v3 c
          ∧ r.2.mem ((c.tc : Thread Cert.Reference6Ideal.nD Cert.Reference6Ideal.τ).loc Cert.Reference6Ideal.main_v55) = v4 c
          ∧ r.2.mem ((c.tc : Thread Cert.Reference6Ideal.nD Cert.Reference6Ideal.τ).loc Cert.Reference6Ideal.main_v76) = v5 c
          ∧ r.2.mem ((c.tc : Thread Cert.Reference6Ideal.nD Cert.Reference6Ideal.τ).loc Cert.Reference6Ideal.main_v116) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_v60) = v1 c
          ∧ r.2.mem ((c.tc : Thread Cert.Reference8Ideal.nD Cert.Reference8Ideal.τ).loc Cert.Reference8Ideal.main_v61) = v2 c
          ∧ r.2.mem ((c.tc : Thread Cert.Reference8Ideal.nD Cert.Reference8Ideal.τ).loc Cert.Reference8Ideal.main_v39) = v3 c
          ∧ r.2.mem ((c.tc : Thread Cert.Reference8Ideal.nD Cert.Reference8Ideal.τ).loc Cert.Reference8Ideal.main_v62) = v4 c
          ∧ r.2.mem ((c.tc : Thread Cert.Reference8Ideal.nD Cert.Reference8Ideal.τ).loc Cert.Reference8Ideal.main_v42) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_v30) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v8) = v2 c
          ∧ r.2.mem ((c.tc : Thread Cert.Reference16Ideal.nD Cert.Reference16Ideal.τ).loc Cert.Reference16Ideal.main_v14) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def preserves_Kernel18_Kernel18Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hKernel18 : Cert.Kernel18.Facts) (hKernel18Ideal : Cert.Kernel18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel18 (hKernel18 := hKernel18)
    ∧ quiescent_Kernel18Ideal (hKernel18Ideal := hKernel18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ preserves_Kernel18_Kernel18Ideal
-- ==== Pre_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v16 : IVec S_ 1) (main_v17 : FVec F S8192x1024 .f32) : IVec S_ 1 :=
  let main_v18 : FVec F S8192x1024 .f32 := Host.absf main_v17
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  let main_c_5 : IVec S_ 1 := constantI S_ 1 1#1
  let main_v21 : IVec S_ 1 := (fun x v => Host.reduce IntOp.andi x v reducesTo_S8192x1024_S_d0_1 h_S_) main_v20 main_c_5
  let main_v22 : IVec S_ 1 := andi main_v16 main_v21
  main_v22

def fn {F : FTy → Type} [FloatOps F] (main_arg0 : FVec F S8192x1024 .bf16) (main_arg1 : FVec F S1024x2816 .bf16) (main_arg2 : FVec F S1024x2816 .bf16) (main_arg3 : FVec F S2816x1024 .bf16) (main_arg4 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x2816 .f32 := (extf .f32 · bitsLt_bf16_f32) main_arg2
  let main_v6 : FVec F S1024x2816 .f32 := Host.absf main_v5
  let main_cst_0 : FVec F S_ .f32 := constant S_ .f32 0x7F800000#32
  let main_v7 : FVec F S1024x2816 .f32 := broadcastInDim S1024x2816 ![] bcast_S_S1024x2816 main_cst_0
  let main_v8 : IVec S1024x2816 1 := cmpf .olt main_v6 main_v7
  let main_c_1 : IVec S_ 1 := constantI S_ 1 1#1
  let main_v9 : IVec S_ 1 := (fun x v => Host.reduce IntOp.andi x v reducesTo_S1024x2816_S_d0_1 h_S_) main_v8 main_c_1
  let main_v10 : IVec S_ 1 := andi main_v4 main_v9
  let main_v11 : FVec F S2816x1024 .f32 := (extf .f32 · bitsLt_bf16_f32) main_arg3
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v10 main_v15
  let main_v17 : FVec F S8192x1024 .f32 := (extf .f32 · bitsLt_bf16_f32) main_arg4
  fn_part1 (F := F) main_v16 main_v17
-- ==== Kernel.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .bf16⟩
  | .hbm, ⟨5, _⟩ => ⟨S8192x2816, .f32⟩
  | .hbm, ⟨6, _⟩ => ⟨S8192x2816, .bf16⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .bf16⟩
  | .hbm, ⟨5, _⟩ => ⟨S8192x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2816, .bf16⟩
  | .hbm, ⟨38, _⟩ => ⟨S8192x2816, .bf16⟩
  | .hbm, ⟨39, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1024x2560 : Shape := ⟨2, ![1024, 2560]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1024x2560, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x2560, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S8192x512 : Shape := ⟨2, ![8192, 512]⟩
abbrev S1024x2560 : Shape := ⟨2, ![1024, 2560]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1024x2560, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1024x2560, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2560, .f32⟩
  | .hbm, ⟨30, _⟩ => ⟨S8192x1024, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x2560, .f32⟩
  | .hbm, ⟨36, _⟩ => ⟨S_, .f32⟩
  | .hbm, ⟨37, _⟩ => ⟨S8192x2560, .f32⟩
  | .hbm, ⟨38, _⟩ => ⟨S8192x2560, .f32⟩
  | .hbm, ⟨39, _⟩ => ⟨S_, .f32⟩
  | .hbm, ⟨40, _⟩ => ⟨S8192x2560, .f32⟩
  | .hbm, ⟨41, _⟩ => ⟨S8192x2560, .f32⟩
  | .hbm, ⟨42, _⟩ => ⟨S_, .f32⟩
  | .hbm, ⟨43, _⟩ => ⟨S8192x2560, .f32⟩
  | .hbm, ⟨44, _⟩ => ⟨S8192x2560, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1024x2560 : Shape := ⟨2, ![1024, 2560]⟩
abbrev S1024x1024 : Shape := ⟨2, ![1024, 1024]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S8192x1024 : Shape := ⟨2, ![8192, 1024]⟩
abbrev S8192x512 : Shape := ⟨2, ![8192, 512]⟩
abbrev S_ : Shape := ⟨0, ![]⟩
abbrev S1024x2560 : Shape := ⟨2, ![1024, 2560]⟩
abbrev S8192x2560 : Shape := ⟨2, ![8192, 2560]⟩
abbrev S2560x1024 : Shape := ⟨2, ![2560, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024x2560, .f32⟩
  | .hbm, ⟨9, _⟩ => ⟨S8192x2560, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x2560, .f32⟩
  | .hbm, ⟨16, _⟩ => ⟨S_, .f32⟩
  | .hbm, ⟨17, _⟩ => ⟨S8192x2560, .f32⟩
  | .hbm, ⟨18, _⟩ => ⟨S8192x2560, .f32⟩
  | .hbm, ⟨19, _⟩ => ⟨S_, .f32⟩
  | .hbm, ⟨20, _⟩ => ⟨S8192x2560, .f32⟩
  | .hbm, ⟨21, _⟩ => ⟨S8192x2560, .f32⟩
  | .hbm, ⟨22, _⟩ => ⟨S_, .f32⟩
  | .hbm, ⟨23, _⟩ => ⟨S8192x2560, .f32⟩
  | .hbm, ⟨24, _⟩ => ⟨S8192x2560, .f32⟩
  | .hbm, ⟨25, _⟩ => ⟨S2560x1024, .f32⟩
  | .hbm, ⟨26, _⟩ => ⟨S1024x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel6.lean ====
abbrev S8192x512 : Shape := ⟨2, ![8192, 512]⟩
abbrev S1024x1024 : Shape := ⟨2, ![1024, 1024]⟩
abbrev S8192x1024 : Shape := ⟨2, ![8192, 1024]⟩
abbrev S1x512 : Shape := ⟨2, ![1, 512]⟩
abbrev S1x1024 : Shape := ⟨2, ![1, 1024]⟩
abbrev S8192x8x64 : Shape := ⟨3, ![8192, 8, 64]⟩
abbrev S1x8x64 : Shape := ⟨3, ![1, 8, 64]⟩
abbrev S_ : Shape := ⟨0, ![]⟩
abbrev S8192x8 : Shape := ⟨2, ![8192, 8]⟩
abbrev S8192x8x1 : Shape := ⟨3, ![8192, 8, 1]⟩
abbrev S8192 : Shape := ⟨1, ![8192]⟩
abbrev S8192x1 : Shape := ⟨2, ![8192, 1]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S1x128 : Shape := ⟨2, ![1, 128]⟩
abbrev S512x128 : Shape := ⟨2, ![512, 128]⟩
abbrev S128 : Shape := ⟨1, ![128]⟩

abbrev nBuf : Space → Nat
  | .hbm => 54
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1024x1024, .bf16⟩
  | .hbm, ⟨3, _⟩ => ⟨S8192x1024, .f32⟩
  | .hbm, ⟨4, _⟩ => ⟨S1x512, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S1024x1024, .f32⟩
  | .hbm, ⟨11, _⟩ => ⟨S8192x8x64, .f32⟩
  | .hbm, ⟨12, _⟩ => ⟨S1x8x64, .f32⟩
  | .hbm, ⟨13, _⟩ => ⟨S8192x8x64, .f32⟩
  | .hbm, ⟨14, _⟩ => ⟨S_, .f32⟩
  | .hbm, ⟨15, _⟩ => ⟨S8192x8, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S8192x8x1, .f32⟩
  | .hbm, ⟨24, _⟩ => ⟨S8192x8x64, .f32⟩
  | .hbm, ⟨25, _⟩ => ⟨S8192x8x64, .f32⟩
  | .hbm, ⟨26, _⟩ => ⟨S8192x8x64, .f32⟩
  | .hbm, ⟨27, _⟩ => ⟨S8192x8x64, .f32⟩
  | .hbm, ⟨28, _⟩ => ⟨S8192x512, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x512, .f32⟩
  | .hbm, ⟨50, _⟩ => ⟨S8192x512, .bf16⟩
  | .hbm, ⟨51, _⟩ => ⟨S1x1024, .f32⟩
  | .hbm, ⟨52, _⟩ => ⟨S1x1024, .f32⟩
  | .hbm, ⟨53, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S1x1024, .f32⟩
  | .local _ .vmem, ⟨23, _⟩ => ⟨S1x1024, .f32⟩
  | .local _ .vmem, ⟨24, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev main_v32_4 : Ref sig .tc := ⟨.hbm, 51, rfl⟩
abbrev main_v32_5 : Ref sig .tc := ⟨.hbm, 52, rfl⟩
abbrev main_v32_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference6Ideal.lean ====
abbrev S8192x512 : Shape := ⟨2, ![8192, 512]⟩
abbrev S1024x1024 : Shape := ⟨2, ![1024, 1024]⟩
abbrev S8192x1024 : Shape := ⟨2, ![8192, 1024]⟩
abbrev S1x512 : Shape := ⟨2, ![1, 512]⟩
abbrev S1x1024 : Shape := ⟨2, ![1, 1024]⟩
abbrev S8192x8x64 : Shape := ⟨3, ![8192, 8, 64]⟩
abbrev S1x8x64 : Shape := ⟨3, ![1, 8, 64]⟩
abbrev S_ : Shape := ⟨0, ![]⟩
abbrev S8192x8 : Shape := ⟨2, ![8192, 8]⟩
abbrev S8192x8x1 : Shape := ⟨3, ![8192, 8, 1]⟩
abbrev S8192 : Shape := ⟨1, ![8192]⟩
abbrev S8192x1 : Shape := ⟨2, ![8192, 1]⟩
abbrev S1024 : Shape := ⟨1, ![1024]⟩
abbrev S8x64 : Shape := ⟨2, ![8, 64]⟩

abbrev nBuf : Space → Nat
  | .hbm => 153
  | .vmem => 0
  | .smem => 0
  | _ => 0

abbrev hbmTy0_0 (i : Nat) : BufTy := match i % 128 with
  | 0 => ⟨S8192x512, .bf16⟩
  | 1 => ⟨S8192x512, .f32⟩
  | 2 => ⟨S1024x1024, .bf16⟩
  | 3 => ⟨S8192x1024, .f32⟩
  | 4 => ⟨S1x512, .f32⟩
  | 5 => ⟨S1x1024, .f32⟩
  | 6 => ⟨S1x1024, .f32⟩
  | 7 => ⟨S8192x1024, .f32⟩
  | 8 => ⟨S8192x1024, .f32⟩
  | 9 => ⟨S8192x512, .f32⟩
  | 10 => ⟨S1024x1024, .f32⟩
  | 11 => ⟨S8192x8x64, .f32⟩
  | 12 => ⟨S1x8x64, .f32⟩
  | 13 => ⟨S8192x8x64, .f32⟩
  | 14 => ⟨S_, .f32⟩
  | 15 => ⟨S8192x8, .f32⟩
  | 16 => ⟨S8192x8x1, .f32⟩
  | 17 => ⟨S_, .f32⟩
  | 18 => ⟨S8192x8x1, .f32⟩
  | 19 => ⟨S8192x8x1, .f32⟩
  | 20 => ⟨S_, .f32⟩
  | 21 => ⟨S8192x8x1, .f32⟩
  | 22 => ⟨S8192x8x1, .f32⟩
  | 23 => ⟨S8192x8x1, .f32⟩
  | 24 => ⟨S8192x8x1, .f32⟩
  | 25 => ⟨S_, .f32⟩
  | 26 => ⟨S8192x8x1, .f32⟩
  | 27 => ⟨S8192x8x1, .f32⟩
  | 28 => ⟨S8192x8x64, .f32⟩
  | 29 => ⟨S8192x8x64, .f32⟩
  | 30 => ⟨S8192x8x64, .f32⟩
  | 31 => ⟨S8192x8x64, .f32⟩
  | 32 => ⟨S8192x512, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S8192x1024, .f32⟩
  | 80 => ⟨S8192x1024, .f32⟩
  | 81 => ⟨S_, .f32⟩
  | 82 => ⟨S8192, .f32⟩
  | 83 => ⟨S8192x1, .f32⟩
  | 84 => ⟨S8192x1024, .f32⟩
  | 85 => ⟨S8192x1024, .f32⟩
  | 86 => ⟨S8192x1024, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S8192x1024, .f32⟩
  | 106 => ⟨S_, .f32⟩
  | 107 => ⟨S8192, .f32⟩
  | 108 => ⟨S8192x1, .f32⟩
  | 109 => ⟨S8192x1024, .f32⟩
  | 110 => ⟨S8192x1024, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x512, .f32⟩
  | 124 => ⟨S8192x512, .f32⟩
  | 125 => ⟨S8192x8x64, .f32⟩
  | 126 => ⟨S8192x8x64, .f32⟩
  | 127 => ⟨S_, .f32⟩
  | _ => ⟨S8192x512, .bf16⟩

abbrev hbmTy0_1 (i : Nat) : BufTy := match i % 128 with
  | 0 => ⟨S8x64, .f32⟩
  | 1 => ⟨S1x8x64, .f32⟩
  | 2 => ⟨S8192x8x64, .f32⟩
  | 3 => ⟨S8192x8x64, .f32⟩
  | 4 => ⟨S8192x8x64, .f32⟩
  | 5 => ⟨S_, .f32⟩
  | 6 => ⟨S8192x8, .f32⟩
  | 7 => ⟨S8192x8x1, .f32⟩
  | 8 => ⟨S8192x8x64, .f32⟩
  | 9 => ⟨S8192x8x64, .f32⟩
  | 10 => ⟨S8192x8x1, .f32⟩
  | 11 => ⟨S_, .f32⟩
  | 12 => ⟨S8192x8x1, .f32⟩
  | 13 => ⟨S8192x8x1, .f32⟩
  | 14 => ⟨S_, .f32⟩
  | 15 => ⟨S8192x8, .f32⟩
  | 16 => ⟨S8192x8x64, .f32⟩
  | 17 => ⟨S8192x8x64, .f32⟩
  | 18 => ⟨S8192x8x64, .f32⟩
  | 19 => ⟨S8192x8x64, .f32⟩
  | 20 => ⟨S8192x8x64, .f32⟩
  | 21 => ⟨S1x512, .f32⟩
  | 22 => ⟨S8192x512, .f32⟩
  | 23 => ⟨S8192x1024, .bf16⟩
  | 24 => ⟨S8192x512, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_20 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_21 : Ref sig .tc := ⟨.hbm, 139, rfl⟩
abbrev main_v108 : Ref sig .tc := ⟨.hbm, 140, rfl⟩
abbrev main_v109 : Ref sig .tc := ⟨.hbm, 141, rfl⟩
abbrev main_cst_22 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024x1024, .f32⟩
  | .hbm, ⟨9, _⟩ => ⟨S8192x1024, .f32⟩
  | .hbm, ⟨10, _⟩ => ⟨S1024x1024, .f32⟩
  | .hbm, ⟨11, _⟩ => ⟨S1024x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S1x128 : Shape := ⟨2, ![1, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x2816, .bf16⟩
  | .hbm, ⟨8, _⟩ => ⟨S8192x2816, .bf16⟩
  | .hbm, ⟨9, _⟩ => ⟨S8192x1024, .bf16⟩
  | .hbm, ⟨10, _⟩ => ⟨S8192x1024, .f32⟩
  | .hbm, ⟨11, _⟩ => ⟨S1x128, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x128, .f32⟩
  | .local _ .vmem, ⟨19, _⟩ => ⟨S1x1024, .f32⟩
  | .local _ .vmem, ⟨20, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v72 : BitVec 1 := Scalar.cmpi .eq arg0 c15_i32
  let v73 : BitVec 32 := Scalar.extui v72
  let c0_i32_40 : BitVec 32 := 0#32
  let v74 : BitVec 1 := Scalar.cmpi .ne v73 c0_i32_40
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference8Ideal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x2816, .bf16⟩
  | .hbm, ⟨91, _⟩ => ⟨S8192x2816, .bf16⟩
  | .hbm, ⟨92, _⟩ => ⟨S8192x1024, .bf16⟩
  | .hbm, ⟨93, _⟩ => ⟨S1x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_cst_8 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .bf16⟩
  | .hbm, ⟨3, _⟩ => ⟨S8192x1024, .bf16⟩
  | .hbm, ⟨4, _⟩ => ⟨S8192x1024, .f32⟩
  | .hbm, ⟨5, _⟩ => ⟨S8192x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .bf16⟩
  | .local _ .vmem, ⟨9, _⟩ => ⟨S512x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x512 : Shape := ⟨2, ![8192, 512]⟩
abbrev S8192x1536 : Shape := ⟨2, ![8192, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x2560, .f32⟩
  | .hbm, ⟨19, _⟩ => ⟨S8192x2560, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1536, .f32⟩
  | .hbm, ⟨28, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel10.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x512, .f32⟩
  | .hbm, ⟨7, _⟩ => ⟨S8192x512, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel11.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S31x64 : Shape := ⟨2, ![31, 64]⟩

abbrev nBuf : Space → Nat
  | .hbm => 7
  | .vmem => 7
  | .smem => 0
  | _ => 0

abbrev bufTy : (tb : Table) → Fin (tcTables nBuf tb) → BufTy
  | .hbm, ⟨0, _⟩ => ⟨S31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .local _ .vmem, ⟨0, _⟩ => ⟨S31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | _, _ => ⟨S31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference12Ideal.lean ====
abbrev S31x64 : Shape := ⟨2, ![31, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S_, .f32⟩
  | .hbm, ⟨5, _⟩ => ⟨S31x64, .f32⟩
  | .hbm, ⟨6, _⟩ => ⟨S31x64, .f32⟩
  | .hbm, ⟨7, _⟩ => ⟨S_, .f32⟩
  | .hbm, ⟨8, _⟩ => ⟨S31x64, .f32⟩
  | .hbm, ⟨9, _⟩ => ⟨S31x64, .f32⟩
  | .hbm, ⟨10, _⟩ => ⟨S31x64, .f32⟩
  | .hbm, ⟨11, _⟩ => ⟨S_, .f32⟩
  | .hbm, ⟨12, _⟩ => ⟨S31x64, .f32⟩
  | .hbm, ⟨13, _⟩ => ⟨S31x64, .f32⟩
  | .hbm, ⟨14, _⟩ => ⟨S31x64, .f32⟩
  | .hbm, ⟨15, _⟩ => ⟨S_, .f32⟩
  | .hbm, ⟨16, _⟩ => ⟨S31x64, .f32⟩
  | .hbm, ⟨17, _⟩ => ⟨S31x64, .f32⟩
  | .hbm, ⟨18, _⟩ => ⟨S31x64, .f32⟩
  | .hbm, ⟨19, _⟩ => ⟨S_, .f32⟩
  | .hbm, ⟨20, _⟩ => ⟨S31x64, .f32⟩
  | .hbm, ⟨21, _⟩ => ⟨S31x64, .f32⟩
  | .hbm, ⟨22, _⟩ => ⟨S_, .f32⟩
  | .hbm, ⟨23, _⟩ => ⟨S31x64, .f32⟩
  | .hbm, ⟨24, _⟩ => ⟨S31x64, .f32⟩
  | .hbm, ⟨25, _⟩ => ⟨S31x64, .f32⟩
  | .hbm, ⟨26, _⟩ => ⟨S_, .f32⟩
  | .hbm, ⟨27, _⟩ => ⟨S31x64, .f32⟩
  | .hbm, ⟨28, _⟩ => ⟨S31x64, .f32⟩
  | .hbm, ⟨29, _⟩ => ⟨S31x64, .f32⟩
  | .hbm, ⟨30, _⟩ => ⟨S_, .f32⟩
  | .hbm, ⟨31, _⟩ => ⟨S31x64, .f32⟩
  | .hbm, ⟨32, _⟩ => ⟨S31x64, .f32⟩
  | .hbm, ⟨33, _⟩ => ⟨S31x64, .f32⟩
  | .hbm, ⟨34, _⟩ => ⟨S_, .f32⟩
  | .hbm, ⟨35, _⟩ => ⟨S31x64, .f32⟩
  | .hbm, ⟨36, _⟩ => ⟨S31x64, .f32⟩
  | _, _ => ⟨S31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x1024x352 : Shape := ⟨3, ![8, 1024, 352]⟩
abbrev S1024x352 : Shape := ⟨2, ![1024, 352]⟩
abbrev S8x128x352 : Shape := ⟨3, ![8, 128, 352]⟩
abbrev S128x352 : Shape := ⟨2, ![128, 352]⟩
abbrev S1x128x352 : Shape := ⟨3, ![1, 128, 352]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S1024x352, .f32⟩
  | .local _ .vmem, ⟨0, _⟩ => ⟨S8x128x352, .f32⟩
  | .local _ .vmem, ⟨1, _⟩ => ⟨S8x128x352, .f32⟩
  | .local _ .vmem, ⟨2, _⟩ => ⟨S128x352, .f32⟩
  | .local _ .vmem, ⟨3, _⟩ => ⟨S128x352, .f32⟩
  | .local _ .vmem, ⟨4, _⟩ => ⟨S128x352, .f32⟩
  | .local _ .vmem, ⟨5, _⟩ => ⟨S128x352, .f32⟩
  | .local _ .vmem, ⟨6, _⟩ => ⟨S128x352, .f32⟩
  | .local _ .vmem, ⟨7, _⟩ => ⟨S128x352, .f32⟩
  | .local _ .vmem, ⟨8, _⟩ => ⟨S128x352, .f32⟩
  | .local _ .vmem, ⟨9, _⟩ => ⟨S128x352, .f32⟩
  | .local _ .vmem, ⟨10, _⟩ => ⟨S128x352, .f32⟩
  | .local _ .vmem, ⟨11, _⟩ => ⟨S128x352, .f32⟩
  | .local _ .vmem, ⟨12, _⟩ => ⟨S128x352, .f32⟩
  | .local _ .vmem, ⟨13, _⟩ => ⟨S128x352, .f32⟩
  | .local _ .vmem, ⟨14, _⟩ => ⟨S128x352, .f32⟩
  | .local _ .vmem, ⟨15, _⟩ => ⟨S128x352, .f32⟩
  | .local _ .vmem, ⟨16, _⟩ => ⟨S128x352, .f32⟩
  | .local _ .vmem, ⟨17, _⟩ => ⟨S128x352, .f32⟩
  | _, _ => ⟨S8x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8x1024x352 : Shape := ⟨3, ![8, 1024, 352]⟩
abbrev S1024x352 : Shape := ⟨2, ![1024, 352]⟩
abbrev S7x1024x352 : Shape := ⟨3, ![7, 1024, 352]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S7x1024x352, .f32⟩
  | .hbm, ⟨6, _⟩ => ⟨S_, .f32⟩
  | .hbm, ⟨7, _⟩ => ⟨S1024x352, .f32⟩
  | .hbm, ⟨8, _⟩ => ⟨S1024x352, .f32⟩
  | .hbm, ⟨9, _⟩ => ⟨S_, .f32⟩
  | .hbm, ⟨10, _⟩ => ⟨S1024x352, .f32⟩
  | .hbm, ⟨11, _⟩ => ⟨S1024x352, .f32⟩
  | .hbm, ⟨12, _⟩ => ⟨S_, .f32⟩
  | .hbm, ⟨13, _⟩ => ⟨S1024x352, .f32⟩
  | .hbm, ⟨14, _⟩ => ⟨S1024x352, .f32⟩
  | .hbm, ⟨15, _⟩ => ⟨S1024x352, .f32⟩
  | .hbm, ⟨16, _⟩ => ⟨S_, .f32⟩
  | .hbm, ⟨17, _⟩ => ⟨S1024x352, .f32⟩
  | .hbm, ⟨18, _⟩ => ⟨S1024x352, .f32⟩
  | .hbm, ⟨19, _⟩ => ⟨S1024x352, .f32⟩
  | .hbm, ⟨20, _⟩ => ⟨S_, .f32⟩
  | .hbm, ⟨21, _⟩ => ⟨S1024x352, .f32⟩
  | .hbm, ⟨22, _⟩ => ⟨S1024x352, .f32⟩
  | .hbm, ⟨23, _⟩ => ⟨S1024x352, .f32⟩
  | .hbm, ⟨24, _⟩ => ⟨S_, .f32⟩
  | .hbm, ⟨25, _⟩ => ⟨S1024x352, .f32⟩
  | .hbm, ⟨26, _⟩ => ⟨S1024x352, .f32⟩
  | .hbm, ⟨27, _⟩ => ⟨S_, .f32⟩
  | .hbm, ⟨28, _⟩ => ⟨S1024x352, .f32⟩
  | .hbm, ⟨29, _⟩ => ⟨S1024x352, .f32⟩
  | .hbm, ⟨30, _⟩ => ⟨S1024x352, .f32⟩
  | .hbm, ⟨31, _⟩ => ⟨S_, .f32⟩
  | .hbm, ⟨32, _⟩ => ⟨S1024x352, .f32⟩
  | .hbm, ⟨33, _⟩ => ⟨S1024x352, .f32⟩
  | .hbm, ⟨34, _⟩ => ⟨S1024x352, .f32⟩
  | .hbm, ⟨35, _⟩ => ⟨S_, .f32⟩
  | .hbm, ⟨36, _⟩ => ⟨S1024x352, .f32⟩
  | .hbm, ⟨37, _⟩ => ⟨S1024x352, .f32⟩
  | .hbm, ⟨38, _⟩ => ⟨S1024x352, .f32⟩
  | .hbm, ⟨39, _⟩ => ⟨S_, .f32⟩
  | .hbm, ⟨40, _⟩ => ⟨S1024x352, .f32⟩
  | .hbm, ⟨41, _⟩ => ⟨S1024x352, .f32⟩
  | _, _ => ⟨S8x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel14.lean ====
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x32x1024, .f32⟩
  | .local _ .vmem, ⟨1, _⟩ => ⟨S8x32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8x352x1024 : Shape := ⟨3, ![8, 352, 1024]⟩
abbrev S352x1024 : Shape := ⟨2, ![352, 1024]⟩
abbrev S7x352x1024 : Shape := ⟨3, ![7, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S7x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel15.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference15Ideal.lean ====
abbrev S8x128x1024 : Shape := ⟨3, ![8, 128, 1024]⟩
abbrev S128x1024 : Shape := ⟨2, ![128, 1024]⟩
abbrev S7x128x1024 : Shape := ⟨3, ![7, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S7x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel16.lean ====
abbrev S8x1024x320 : Shape := ⟨3, ![8, 1024, 320]⟩
abbrev S1024x320 : Shape := ⟨2, ![1024, 320]⟩
abbrev S8x128x320 : Shape := ⟨3, ![8, 128, 320]⟩
abbrev S128x320 : Shape := ⟨2, ![128, 320]⟩
abbrev S1x128x320 : Shape := ⟨3, ![1, 128, 320]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x320, .bf16⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .hbm, ⟨8, _⟩ => ⟨S1024x320, .f32⟩
  | .local _ .vmem, ⟨0, _⟩ => ⟨S8x128x320, .bf16⟩
  | .local _ .vmem, ⟨1, _⟩ => ⟨S8x128x320, .bf16⟩
  | .local _ .vmem, ⟨2, _⟩ => ⟨S128x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S128x320, .f32⟩
  | .local _ .vmem, ⟨8, _⟩ => ⟨S128x320, .f32⟩
  | .local _ .vmem, ⟨9, _⟩ => ⟨S128x320, .f32⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S128x320, .f32⟩
  | .local _ .vmem, ⟨15, _⟩ => ⟨S128x320, .f32⟩
  | .local _ .vmem, ⟨16, _⟩ => ⟨S128x320, .f32⟩
  | .local _ .vmem, ⟨17, _⟩ => ⟨S128x320, .f32⟩
  | _, _ => ⟨S8x1024x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x320 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S8x1024x320 : Shape := ⟨3, ![8, 1024, 320]⟩
abbrev S1024x320 : Shape := ⟨2, ![1024, 320]⟩
abbrev S7x1024x320 : Shape := ⟨3, ![7, 1024, 320]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x320, .bf16⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S7x1024x320, .bf16⟩
  | .hbm, ⟨6, _⟩ => ⟨S7x1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S_, .f32⟩
  | .hbm, ⟨11, _⟩ => ⟨S1024x320, .f32⟩
  | .hbm, ⟨12, _⟩ => ⟨S1024x320, .f32⟩
  | .hbm, ⟨13, _⟩ => ⟨S_, .f32⟩
  | .hbm, ⟨14, _⟩ => ⟨S1024x320, .f32⟩
  | .hbm, ⟨15, _⟩ => ⟨S1024x320, .f32⟩
  | .hbm, ⟨16, _⟩ => ⟨S1024x320, .f32⟩
  | .hbm, ⟨17, _⟩ => ⟨S_, .f32⟩
  | .hbm, ⟨18, _⟩ => ⟨S1024x320, .f32⟩
  | .hbm, ⟨19, _⟩ => ⟨S1024x320, .f32⟩
  | .hbm, ⟨20, _⟩ => ⟨S1024x320, .f32⟩
  | .hbm, ⟨21, _⟩ => ⟨S_, .f32⟩
  | .hbm, ⟨22, _⟩ => ⟨S1024x320, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S_, .f32⟩
  | .hbm, ⟨29, _⟩ => ⟨S1024x320, .f32⟩
  | .hbm, ⟨30, _⟩ => ⟨S1024x320, .f32⟩
  | .hbm, ⟨31, _⟩ => ⟨S1024x320, .f32⟩
  | .hbm, ⟨32, _⟩ => ⟨S_, .f32⟩
  | .hbm, ⟨33, _⟩ => ⟨S1024x320, .f32⟩
  | .hbm, ⟨34, _⟩ => ⟨S1024x320, .f32⟩
  | .hbm, ⟨35, _⟩ => ⟨S1024x320, .f32⟩
  | .hbm, ⟨36, _⟩ => ⟨S_, .f32⟩
  | .hbm, ⟨37, _⟩ => ⟨S1024x320, .f32⟩
  | .hbm, ⟨38, _⟩ => ⟨S1024x320, .f32⟩
  | .hbm, ⟨39, _⟩ => ⟨S1024x320, .f32⟩
  | .hbm, ⟨40, _⟩ => ⟨S_, .f32⟩
  | .hbm, ⟨41, _⟩ => ⟨S1024x320, .f32⟩
  | .hbm, ⟨42, _⟩ => ⟨S1024x320, .f32⟩
  | _, _ => ⟨S8x1024x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel17.lean ====
abbrev S8192x1024 : Shape := ⟨2, ![8192, 1024]⟩
abbrev S8192x512 : Shape := ⟨2, ![8192, 512]⟩
abbrev S32x512 : Shape := ⟨2, ![32, 512]⟩
abbrev S1x512 : Shape := ⟨2, ![1, 512]⟩
abbrev S8x512 : Shape := ⟨2, ![8, 512]⟩
abbrev S512x1024 : Shape := ⟨2, ![512, 1024]⟩
abbrev S32x1024 : Shape := ⟨2, ![32, 1024]⟩
abbrev S512x512 : Shape := ⟨2, ![512, 512]⟩
abbrev S544x512 : Shape := ⟨2, ![544, 512]⟩
abbrev S256x512 : Shape := ⟨2, ![256, 512]⟩
abbrev S24x512 : Shape := ⟨2, ![24, 512]⟩
abbrev S7x536x512 : Shape := ⟨3, ![7, 536, 512]⟩
abbrev S536x512 : Shape := ⟨2, ![536, 512]⟩
abbrev S1x536x512 : Shape := ⟨3, ![1, 536, 512]⟩
abbrev S64x512 : Shape := ⟨2, ![64, 512]⟩
abbrev S64 : Shape := ⟨1, ![64]⟩
abbrev S64x1 : Shape := ⟨2, ![64, 1]⟩
abbrev S8x8x512 : Shape := ⟨3, ![8, 8, 512]⟩
abbrev S1x64x512 : Shape := ⟨3, ![1, 64, 512]⟩
abbrev S512 : Shape := ⟨1, ![512]⟩
abbrev S5x512 : Shape := ⟨2, ![5, 512]⟩

abbrev nBuf : Space → Nat
  | .hbm => 9
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S32x512, .f32⟩
  | .hbm, ⟨4, _⟩ => ⟨S1x512, .f32⟩
  | .hbm, ⟨5, _⟩ => ⟨S1x512, .f32⟩
  | .hbm, ⟨6, _⟩ => ⟨S8192x1024, .bf16⟩
  | .hbm, ⟨7, _⟩ => ⟨S32x512, .f32⟩
  | .hbm, ⟨8, _⟩ => ⟨S8x512, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S32x512, .f32⟩
  | .local _ .vmem, ⟨14, _⟩ => ⟨S8x512, .f32⟩
  | .local _ .vmem, ⟨15, _⟩ => ⟨S544x512, .f32⟩
  | .local _ .vmem, ⟨16, _⟩ => ⟨S544x512, .f32⟩
  | .local _ .vmem, ⟨17, _⟩ => ⟨S512x512, .f32⟩
  | .local _ .vmem, ⟨18, _⟩ => ⟨S256x512, .f32⟩
  | .local _ .vmem, ⟨19, _⟩ => ⟨S24x512, .f32⟩
  | .local _ .vmem, ⟨20, _⟩ => ⟨S7x536x512, .f32⟩
  | .local _ .vmem, ⟨21, _⟩ => ⟨S7x536x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32_3484 : BitVec 32 := 15#32
  let v4631 : BitVec 1 := Scalar.cmpi .eq arg0 c15_i32_3484
  let v4632 : BitVec 32 := Scalar.extui v4631
  let c0_i32_3485 : BitVec 32 := 0#32
  let v4633 : BitVec 1 := Scalar.cmpi .ne v4632 c0_i32_3485
  v4633

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel18.lean ====
abbrev S8192x1024 : Shape := ⟨2, ![8192, 1024]⟩
abbrev S32x512 : Shape := ⟨2, ![32, 512]⟩
abbrev S1x512 : Shape := ⟨2, ![1, 512]⟩
abbrev S8192x512 : Shape := ⟨2, ![8192, 512]⟩
abbrev S512x1024 : Shape := ⟨2, ![512, 1024]⟩
abbrev S512x512 : Shape := ⟨2, ![512, 512]⟩
abbrev S544x512 : Shape := ⟨2, ![544, 512]⟩
abbrev S7x536x512 : Shape := ⟨3, ![7, 536, 512]⟩
abbrev S536x512 : Shape := ⟨2, ![536, 512]⟩
abbrev S1x536x512 : Shape := ⟨3, ![1, 536, 512]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S32x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8192x512, .bf16⟩
  | .hbm, ⟨6, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S32x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S544x512, .f32⟩
  | .local _ .vmem, ⟨11, _⟩ => ⟨S7x536x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.AdamwConv.lean ====
module

public import proofs.«01_k».proof.Defs
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read

/-! # The optimiser step of a device's part of the convolution's weight

Every step of the update is one operation per entry, so the kernel's arrays and the reference's are compared entry by entry. -/

@[expose] public section

set_option maxRecDepth 16384

noncomputable section

namespace Cert.Kernel12Ideal.AdamwConv

open Cert.Kernel12Ideal Cert.Kernel12Ideal.Gen Idealize.ShloMosaic Idealize.ShloMosaic.TcCoe Idealize.SL.Sem
open Cert.Reference12Ideal.Read

/-- The parameters, their gradients and the two moments. -/
abbrev Arr := (⟨S31x64, .f32⟩ : BufTy).Contents (Elt Ideal)

variable (p g mu nu : Arr)

/-- The reference's first moment. -/
theorem ref4 : val_main_v4 (F := Ideal) g mu = Value.G5 (F := Ideal) g mu := by
  funext i
  simp only [val_main_v4_apply, val_main_v3_apply, val_main_v2_apply, val_main_v1_apply, val_main_v0_apply]
  rfl

/-- The reference's second moment. -/
theorem ref10 : val_main_v10 (F := Ideal) g nu = Value.G6 (F := Ideal) g nu := by
  funext i
  simp only [val_main_v10_apply, val_main_v9_apply, val_main_v8_apply, val_main_v7_apply, val_main_v6_apply, val_main_v5_apply]
  rfl

/-- The reference's change of the parameters. -/
theorem ref23 : val_main_v23 (F := Ideal) p g mu nu = Value.G4 (F := Ideal) p g mu nu := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref4, ref10]
  rfl

/-- Kernel and reference end with the same three arrays. -/
theorem algebraic : Cert.algebraic_Kernel12Ideal_Reference12Ideal := by
  intro m g m' g' _ hagree
  refine ⟨fun c => Value.G4 (F := Ideal) (m ((c : Thread nD τ).loc main_arg0)) (m ((c : Thread nD τ).loc main_arg1))
      (m ((c : Thread nD τ).loc main_arg2)) (m ((c : Thread nD τ).loc main_arg3)),
    fun c => Value.G5 (F := Ideal) (m ((c : Thread nD τ).loc main_arg1)) (m ((c : Thread nD τ).loc main_arg2)),
    fun c => Value.G6 (F := Ideal) (m ((c : Thread nD τ).loc main_arg1)) (m ((c : Thread nD τ).loc main_arg3)),
    Value.run (F := Ideal) m g, ?_⟩
  refine (θ_run _ _ _).mono (fun _ h c => ?_) (Cert.Reference12Ideal.Value.run (F := Ideal) m' g')
  obtain ⟨h0, h1, h2, hk⟩ := h c
  obtain ⟨e0, e1, e2, e3⟩ := hagree c
  rw [val_main_v23_eq, e0, e1, e2, e3] at h0
  rw [val_main_v4_eq, e1, e2] at h1
  rw [val_main_v10_eq, e1, e3] at h2
  exact ⟨h0.trans (ref23 _ _ _ _), h1.trans (ref4 _ _), h2.trans (ref10 _ _), hk⟩

end Cert.Kernel12Ideal.AdamwConv

end
-- ==== Proof.AdamwSmall.lean ====
module

public import proofs.«01_k».proof.Defs
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read

/-! # The optimiser step of the eight parameters kept on every device

Every step of the update is one operation per entry, so the kernel's arrays and the reference's are compared entry by entry. -/

@[expose] public section

set_option maxRecDepth 16384

noncomputable section

namespace Cert.Kernel11Ideal.AdamwSmall

open Cert.Kernel11Ideal Cert.Kernel11Ideal.Gen Idealize.ShloMosaic Idealize.ShloMosaic.TcCoe Idealize.SL.Sem
open Cert.Reference11Ideal.Read

/-- The parameters, their gradients and the two moments. -/
abbrev Arr := (⟨S16x512, .f32⟩ : BufTy).Contents (Elt Ideal)

variable (p g mu nu : Arr)

/-- The reference's first moment. -/
theorem ref4 : val_main_v4 (F := Ideal) g mu = Value.G5 (F := Ideal) g mu := by
  funext i
  simp only [val_main_v4_apply, val_main_v3_apply, val_main_v2_apply, val_main_v1_apply, val_main_v0_apply]
  rfl

/-- The reference's second moment. -/
theorem ref10 : val_main_v10 (F := Ideal) g nu = Value.G6 (F := Ideal) g nu := by
  funext i
  simp only [val_main_v10_apply, val_main_v9_apply, val_main_v8_apply, val_main_v7_apply, val_main_v6_apply, val_main_v5_apply]
  rfl

/-- The reference's change of the parameters. -/
theorem ref23 : val_main_v23 (F := Ideal) p g mu nu = Value.G4 (F := Ideal) p g mu nu := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref4, ref10]
  rfl

/-- Kernel and reference end with the same three arrays. -/
theorem algebraic : Cert.algebraic_Kernel11Ideal_Reference11Ideal := by
  intro m g m' g' _ hagree
  refine ⟨fun c => Value.G4 (F := Ideal) (m ((c : Thread nD τ).loc main_arg0)) (m ((c : Thread nD τ).loc main_arg1))
      (m ((c : Thread nD τ).loc main_arg2)) (m ((c : Thread nD τ).loc main_arg3)),
    fun c => Value.G5 (F := Ideal) (m ((c : Thread nD τ).loc main_arg1)) (m ((c : Thread nD τ).loc main_arg2)),
    fun c => Value.G6 (F := Ideal) (m ((c : Thread nD τ).loc main_arg1)) (m ((c : Thread nD τ).loc main_arg3)),
    Value.run (F := Ideal) m g, ?_⟩
  refine (θ_run _ _ _).mono (fun _ h c => ?_) (Cert.Reference11Ideal.Value.run (F := Ideal) m' g')
  obtain ⟨h0, h1, h2, hk⟩ := h c
  obtain ⟨e0, e1, e2, e3⟩ := hagree c
  rw [val_main_v23_eq, e0, e1, e2, e3] at h0
  rw [val_main_v4_eq, e1, e2] at h1
  rw [val_main_v10_eq, e1, e3] at h2
  exact ⟨h0.trans (ref23 _ _ _ _), h1.trans (ref4 _ _), h2.trans (ref10 _ _), hk⟩

end Cert.Kernel11Ideal.AdamwSmall

end
-- ==== Proof.Stores.lean ====
module

public import Idealize.ShloMosaic.Lib.Pipeline.ValueKit
public import Idealize.ShloMosaic.Lib.Pointwise

/-! # Stores that add into a part of a block

The weight-gradient kernels fill a block with zero and then add, part by part, into it. The lemma here reads the block
after one such addition: the part it goes to gains the term, the rest stays. -/

@[expose] public section

noncomputable section

namespace Cert.Stores

open Idealize.ShloMosaic

/-- A store through the rectangle `r` of what was there plus `T`, over the earlier stores `L`: at every index the block
    holds what `L` left (`g`), and inside the rectangle `T` more. -/
theorem canon_add {S : Shape} (r : Rect S) (w : r.shape.Idx → Elt Ideal .f32) (L : List (View.Piece (Elt Ideal) S .f32))
    (g T : S.Idx → EReal) (hL : ∀ y, View.canon L y = g y)
    (hw : ∀ x, w x = (View.canon L (r.emb x) : EReal) + T (r.emb x)) (y : S.Idx) [Decidable (y ∈ r.set)] :
    View.canon (⟨r, w⟩ :: L) y = g y + if y ∈ r.set then T y else 0 := by
  split
  next hm =>
    obtain ⟨x, rfl⟩ := r.exists_idx_of_mem hm
    rw [show r.idx x = r.emb x from rfl, View.canon_cons_emb, hw, hL]
  next hm => rw [View.canon_cons_of_not_mem _ _ hm, hL, add_zero]

/-- Where a rectangle of a rank-2 block places an index. -/
theorem emb_unit2 {n0 n1 s0 s1 o0 o1 : ℕ} {inb} (x : (⟨2, ![s0, s1]⟩ : Shape).Idx) (j : (⟨2, ![n0, n1]⟩ : Shape).Idx)
    (h0 : (j 0).val = o0 + (x 0).val) (h1 : (j 1).val = o1 + (x 1).val) :
    (Rect.unit (s := (⟨2, ![n0, n1]⟩ : Shape)) ![o0, o1] ![s0, s1] inb).emb x = j := by
  funext a
  apply Fin.ext
  match a with
  | ⟨0, _⟩ => exact (by simp [Rect.emb, Rect.unit] : _ = o0 + (x 0).val).trans h0.symm
  | ⟨1, _⟩ => exact (by simp [Rect.emb, Rect.unit] : _ = o1 + (x 1).val).trans h1.symm

/-- The coordinates of the index a rectangle of a rank-2 block places `x` at. -/
theorem emb_unit2_0 {n0 n1 s0 s1 o0 o1 : ℕ} {inb} (x : (⟨2, ![s0, s1]⟩ : Shape).Idx) :
    (((Rect.unit (s := (⟨2, ![n0, n1]⟩ : Shape)) ![o0, o1] ![s0, s1] inb).emb x) 0).val = o0 + (x 0).val := by
  simp [Rect.emb, Rect.unit]

@[inherit_doc emb_unit2_0]
theorem emb_unit2_1 {n0 n1 s0 s1 o0 o1 : ℕ} {inb} (x : (⟨2, ![s0, s1]⟩ : Shape).Idx) :
    (((Rect.unit (s := (⟨2, ![n0, n1]⟩ : Shape)) ![o0, o1] ![s0, s1] inb).emb x) 1).val = o1 + (x 1).val := by
  simp [Rect.emb, Rect.unit]

/-- Which indices a rectangle of a rank-2 block holds. -/
theorem mem_unit2 {n0 n1 s0 s1 o0 o1 : ℕ} {inb} (j : (⟨2, ![n0, n1]⟩ : Shape).Idx) :
    j ∈ (Rect.unit (s := (⟨2, ![n0, n1]⟩ : Shape)) ![o0, o1] ![s0, s1] inb).set
      ↔ (o0 ≤ (j 0).val ∧ (j 0).val < o0 + s0) ∧ o1 ≤ (j 1).val ∧ (j 1).val < o1 + s1 := by
  rw [Rect.mem_set_unit, Fin.forall_fin_two]
  rfl

/-- Of two parts that share the block out, exactly one gains the term. -/
theorem two_parts {p q : Prop} [Decidable p] [Decidable q] (T : EReal) (h : q ↔ ¬p) :
    ((0 + if p then T else 0) + if q then T else 0) = 0 + T := by
  by_cases hp : p
  · rw [if_pos hp, if_neg (fun hq => h.mp hq hp), add_zero]
  · rw [if_neg hp, if_pos (h.mpr hp), add_zero]

/-- The same of four parts. -/
theorem four_parts {p0 p1 p2 p3 : Prop} [Decidable p0] [Decidable p1] [Decidable p2] [Decidable p3] (T : EReal)
    (h : p0 ∧ ¬p1 ∧ ¬p2 ∧ ¬p3 ∨ ¬p0 ∧ p1 ∧ ¬p2 ∧ ¬p3 ∨ ¬p0 ∧ ¬p1 ∧ p2 ∧ ¬p3 ∨ ¬p0 ∧ ¬p1 ∧ ¬p2 ∧ p3) :
    ((((0 + if p0 then T else 0) + if p1 then T else 0) + if p2 then T else 0) + if p3 then T else 0) = 0 + T := by
  rcases h with ⟨h0, h1, h2, h3⟩ | ⟨h0, h1, h2, h3⟩ | ⟨h0, h1, h2, h3⟩ | ⟨h0, h1, h2, h3⟩
  · rw [if_pos h0, if_neg h1, if_neg h2, if_neg h3, add_zero, add_zero, add_zero]
  · rw [if_neg h0, if_pos h1, if_neg h2, if_neg h3, add_zero, add_zero, add_zero]
  · rw [if_neg h0, if_neg h1, if_pos h2, if_neg h3, add_zero, add_zero, add_zero]
  · rw [if_neg h0, if_neg h1, if_neg h2, if_pos h3, add_zero, add_zero, add_zero]

/-- Two indices of a rank-2 array with the same coordinates. -/
theorem idx2_ext {n0 n1 : ℕ} {i j : (⟨2, ![n0, n1]⟩ : Shape).Idx} (h0 : i 0 = j 0) (h1 : i 1 = j 1) : i = j :=
  funext fun a => match a with
    | ⟨0, _⟩ => h0
    | ⟨1, _⟩ => h1

end Cert.Stores

end
-- ==== Proof.Reals.lean ====
module

public import Idealize.ShloMosaic.Lib.Pipeline.ValueKit
public import Idealize.ShloMosaic.Lib.Pointwise
public import Idealize.ShloMosaic.Lib.ReduceAll

/-! # Real entries

The extended reals are no ring: a product distributes over a sum only where no infinity meets. The claims about the
nonlinear backward passes assume finite arguments; here is what a test of finiteness gives, and how finiteness passes
through sums and products. -/

@[expose] public section

noncomputable section

namespace Cert.Reals

open Idealize.ShloMosaic

/-- The extended real is a real. -/
def Fin (x : EReal) : Prop := ∃ r : ℝ, x = r

theorem fin_coe (r : ℝ) : Fin (r : EReal) := ⟨r, rfl⟩

theorem fin_mul {x y : EReal} : Fin x → Fin y → Fin (x * y) := by
  rintro ⟨a, rfl⟩ ⟨b, rfl⟩; exact ⟨a * b, (EReal.coe_mul a b).symm⟩

theorem fin_add {x y : EReal} : Fin x → Fin y → Fin (x + y) := by
  rintro ⟨a, rfl⟩ ⟨b, rfl⟩; exact ⟨a + b, (EReal.coe_add a b).symm⟩

/-- A finite sum of reals, as an extended real, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fin_sum {ι : Type} (s : Finset ι) (f : ι → EReal) (h : ∀ i, Fin (f i)) : Fin (∑ i ∈ s, f i) := by
  choose g hg using h
  exact ⟨∑ i ∈ s, g i, by rw [← coe_sum]; exact Finset.sum_congr rfl fun i _ => hg i⟩

/-- The word of the infinity is `⊤`. -/
theorem word_inf : Ideal.ofBits .f32 0x7F800000#32 = ⊤ := by simp [Ideal.ofBits, Ideal.ieee]

/-- An extended real whose absolute value is below infinity is a real. -/
theorem fin_of_lt (x : EReal) (h : Ideal.cmp .olt (max x (-x)) (Ideal.ofBits .f32 0x7F800000#32) = 1#1) : Fin x := by
  rw [word_inf] at h
  induction x using EReal.rec with
  | bot => simp [Ideal.cmp] at h
  | top => simp [Ideal.cmp] at h
  | coe r => exact ⟨r, rfl⟩

/-- A test of finiteness over a whole array, as the preconditions write it. -/
theorem fin_of_all {s t u : Shape} {axes : List (_root_.Fin s.rank)} [Subsingleton t.Idx] (x : s.Idx → EReal)
    (p : s.Idx → BitVec 1) (init : u.Idx → BitVec 1) (h : s.ReducesTo axes t) (hu : 0 < u.numel) (j : t.Idx)
    (e : Host.reduce IntOp.andi p init h hu j = 1#1)
    (hp : ∀ i, p i = Ideal.cmp .olt (max (x i) (-x i)) (Ideal.ofBits .f32 0x7F800000#32)) (i : s.Idx) : Fin (x i) :=
  fin_of_lt _ ((hp i).symm.trans (Host.reduce_andi_all p init h hu j e i))

/-- The sigmoid's product with `1 + x (1 - σ)`, times a real: the two forms of the gate's derivative agree. -/
theorem silu_grad (x c : EReal) (hc : Fin c) :
    c * (Ideal.logistic x * (1 + x * (1 - Ideal.logistic x)))
      = c * Ideal.logistic x + x * c * (Ideal.logistic x * (1 - Ideal.logistic x)) := by
  obtain ⟨c, rfl⟩ := hc
  have one : (1 : EReal) - 1 = 0 := by rw [← EReal.coe_one, ← EReal.coe_sub, sub_self, EReal.coe_zero]
  induction x using EReal.rec with
  | bot => rw [Ideal.logistic_bot]; simp
  | top => rw [Ideal.logistic_top, one]; simp
  | coe r =>
    rw [Ideal.logistic_coe]
    generalize (1 + Real.exp (-r))⁻¹ = s
    rw [← EReal.coe_one]
    simp only [← EReal.coe_sub, ← EReal.coe_mul, ← EReal.coe_add]
    congr 1
    ring

end Cert.Reals

end
-- ==== Proof.FfnBwd.lean ====
module

public import proofs.«01_k».proof.Defs
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Stores
public import proofs.«01_k».proof.Proof.Reals

/-! # The backward pass of the gated feed-forward block

The kernel takes 256 rows at a time: the cotangent times the down projection's transpose, the gate's derivative, and the
two products back to the block's input. Here its four results are written entry by entry, and the reference's derivative
is shown to be the same numbers. -/

@[expose] public section

set_option maxRecDepth 16384

noncomputable section

namespace Cert.KernelIdeal.FfnBwd

open Cert.KernelIdeal Cert.KernelIdeal.Gen Idealize.ShloMosaic Idealize.ShloMosaic.TcCoe Idealize.SL.Sem
open Idealize.ShloMosaic.Pipeline (Dat)
open Cert.Reals (fin_mul fin_sum)

abbrev Rows := (⟨S8192x1024, .bf16⟩ : BufTy).Contents (Elt Ideal)
abbrev Wide := (⟨S1024x2816, .bf16⟩ : BufTy).Contents (Elt Ideal)
abbrev Tall := (⟨S2816x1024, .bf16⟩ : BufTy).Contents (Elt Ideal)

/-- A row of the input times a column of a weight. -/
def proj (x : Rows) (w : Wide) (i : Fin 8192) (j : Fin 2816) : EReal := ∑ k : Fin 1024, (x (ix2 i k) : EReal) * w (ix2 k j)

/-- The cotangent of the activations: a row of the cotangent times a row of the down projection. -/
def dact (d : Rows) (w : Tall) (i : Fin 8192) (j : Fin 2816) : EReal := ∑ k : Fin 1024, (d (ix2 i k) : EReal) * w (ix2 j k)

/-- The gate's output `x σ(x)`. -/
def silu (x : EReal) : EReal := x * Ideal.logistic x

/-- The cotangent of the gate's projection. -/
def gate (x : Rows) (wg wu : Wide) (wd : Tall) (d : Rows) (i : Fin 8192) (j : Fin 2816) : EReal :=
  dact d wd i j * proj x wu i j * (Ideal.logistic (proj x wg i j) * (1 + proj x wg i j * (1 - Ideal.logistic (proj x wg i j))))

/-- The cotangent of the up projection. -/
def up (x : Rows) (wg : Wide) (wd : Tall) (d : Rows) (i : Fin 8192) (j : Fin 2816) : EReal := dact d wd i j * silu (proj x wg i j)

/-- The activations. -/
def act (x : Rows) (wg wu : Wide) (i : Fin 8192) (j : Fin 2816) : EReal := silu (proj x wg i j) * proj x wu i j

/-- The first result: the cotangent of the gate's projection, as an array. -/
def gateA (x : Rows) (wg wu : Wide) (wd : Tall) (d : Rows) : (⟨S8192x2816, .bf16⟩ : BufTy).Contents (Elt Ideal) :=
  fun j => gate x wg wu wd d (j 0) (j 1)

/-- The second result: the cotangent of the up projection. -/
def upA (x : Rows) (wg : Wide) (wd : Tall) (d : Rows) : (⟨S8192x2816, .bf16⟩ : BufTy).Contents (Elt Ideal) :=
  fun j => up x wg wd d (j 0) (j 1)

/-- The third result: the activations. -/
def actA (x : Rows) (wg wu : Wide) : (⟨S8192x2816, .bf16⟩ : BufTy).Contents (Elt Ideal) :=
  fun j => act x wg wu (j 0) (j 1)

/-- The fourth result: the cotangent of the block's input. -/
def inputA (x : Rows) (wg wu : Wide) (wd : Tall) (d : Rows) : (⟨S8192x1024, .f32⟩ : BufTy).Contents (Elt Ideal) :=
  fun j => (∑ k : Fin 2816, gate x wg wu wd d (j 0) k * (wg (ix2 (j 1) k) : EReal))
    + ∑ k : Fin 2816, up x wg wd d (j 0) k * (wu (ix2 (j 1) k) : EReal)

variable (m : (ℓ : Loc nD τ sig) → Buf (Elt Ideal) ℓ)

/-- The five arguments on device `c`: the block's input, the three weights and the cotangent. -/
abbrev aX (c : Dev nD) : Rows := m ((c : Thread nD τ).loc main_arg0)
abbrev aG (c : Dev nD) : Wide := m ((c : Thread nD τ).loc main_arg1)
abbrev aU (c : Dev nD) : Wide := m ((c : Thread nD τ).loc main_arg2)
abbrev aD (c : Dev nD) : Tall := m ((c : Thread nD τ).loc main_arg3)
abbrev aC (c : Dev nD) : Rows := m ((c : Thread nD τ).loc main_arg4)

/-- Group `t` of 256 rows at grid point `t`; the weights whole at each. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

section Payloads
variable (d : Vec Ideal S256x1024 .bf16) (wd : Vec Ideal S2816x1024 .bf16) (g u : Vec Ideal S256x2816 .bf16)
  (wg wu : Vec Ideal S1024x2816 .bf16)

/-- A row of the cotangent's block times a row of the down projection. -/
def dblk (a : Fin 256) (b : Fin 2816) : EReal := ∑ k : Fin 1024, (d (ix2 a k) : EReal) * wd (ix2 b k)

theorem pay1 (j) : k0_pay1 d wd j = ∑ k : Fin 1024, (d (ix2 (j 0) k) : EReal) * wd (ix2 (j 1) k) := by pointwise [k0_pay1]

theorem pay6 (j) : k0_pay6 d wd g u j = dblk d wd (j 0) (j 1) * u j
    * (Ideal.logistic (g j) * (1 + g j * (1 - Ideal.logistic (g j)))) := by
  pointwise [k0_pay6, pay1, dblk, k0_pay2, k0_pay3, k0_pay4]

theorem pay7 (j) : k0_pay7 d wd g j = dblk d wd (j 0) (j 1) * silu (g j) := by
  pointwise [k0_pay7, pay1, dblk, k0_pay5, k0_pay2, k0_pay4, silu]

theorem pay8 (j) : k0_pay8 g u j = silu (g j) * (u j : EReal) := by
  pointwise [k0_pay8, k0_pay5, k0_pay3, k0_pay2, k0_pay4, silu]

theorem pay9 (j) : k0_pay9 d wd g u wg wu j = (∑ k : Fin 2816, k0_pay6 d wd g u (ix2 (j 0) k) * (wg (ix2 (j 1) k) : EReal))
    + ∑ k : Fin 2816, k0_pay7 d wd g (ix2 (j 0) k) * (wu (ix2 (j 1) k) : EReal) := by
  pointwise [k0_pay9]

end Payloads

/-- The block of the cotangent at point `t`. -/
theorem in0 (c : Dev nD) (t : Fin cfg0.N) (r : Fin 256) (R : Fin 8192) (hR : R.val = t.val * 256 + r.val) (k : Fin 1024) :
    (iblk m c 0 t : Vec Ideal S256x1024 .bf16) (ix2 r k) = aC m c (ix2 R k) := by
  blk_point [iblk, V, idx t]

/-- The gate's projection, which the host computes before the call. -/
theorem v1 (c : Dev nD) (i : S8192x2816.Idx) : V m c main_v1 i = proj (aX m c) (aG m c) (i 0) (i 1) := by
  entry_read
  pointwise
  rfl

/-- The up projection, which the host computes before the call. -/
theorem v3 (c : Dev nD) (i : S8192x2816.Idx) : V m c main_v3 i = proj (aX m c) (aU m c) (i 0) (i 1) := by
  entry_read
  pointwise
  rfl

/-- The block of the gate's projection. -/
theorem in1 (c : Dev nD) (t : Fin cfg0.N) (r : Fin 256) (R : Fin 8192) (hR : R.val = t.val * 256 + r.val) (k : Fin 2816) :
    (iblk m c 1 t : Vec Ideal S256x2816 .bf16) (ix2 r k) = proj (aX m c) (aG m c) R k := by
  have e : (iblk m c 1 t : Vec Ideal S256x2816 .bf16) (ix2 r k) = V m c main_v1 (ix2 R k) := by
    unfold iblk; blk_simp; congr 1; blk_ext [idx t]
  exact e.trans (v1 m c _)

/-- The block of the up projection. -/
theorem in2 (c : Dev nD) (t : Fin cfg0.N) (r : Fin 256) (R : Fin 8192) (hR : R.val = t.val * 256 + r.val) (k : Fin 2816) :
    (iblk m c 2 t : Vec Ideal S256x2816 .bf16) (ix2 r k) = proj (aX m c) (aU m c) R k := by
  have e : (iblk m c 2 t : Vec Ideal S256x2816 .bf16) (ix2 r k) = V m c main_v3 (ix2 R k) := by
    unfold iblk; blk_simp; congr 1; blk_ext [idx t]
  exact e.trans (v3 m c _)

theorem in3 (c : Dev nD) (t : Fin cfg0.N) (j : S1024x2816.Idx) :
    (iblk m c 3 t : Vec Ideal S1024x2816 .bf16) j = aG m c j := by blk_point [iblk, V, idx t]

theorem in4 (c : Dev nD) (t : Fin cfg0.N) (j : S1024x2816.Idx) :
    (iblk m c 4 t : Vec Ideal S1024x2816 .bf16) j = aU m c j := by blk_point [iblk, V, idx t]

theorem in5 (c : Dev nD) (t : Fin cfg0.N) (j : S2816x1024.Idx) :
    (iblk m c 5 t : Vec Ideal S2816x1024 .bf16) j = aD m c j := by blk_point [iblk, V, idx t]

/-- Where the blocks of result 0 place their entries: rows `t * 256 + r` of the array. -/
theorem out6 (t : Fin cfg0.N) (y : S256x2816.Idx) (R : Fin 8192) (hR : R.val = t.val * 256 + (y 0).val) :
    ((View.whole main_v4_0).slice (win0_6.rect t)).emb y = ix2 R (y 1) := by
  blk_ext [idx t]

/-- Where the blocks of result 1 place their entries: rows `t * 256 + r` of the array. -/
theorem out7 (t : Fin cfg0.N) (y : S256x2816.Idx) (R : Fin 8192) (hR : R.val = t.val * 256 + (y 0).val) :
    ((View.whole main_v4_1).slice (win0_7.rect t)).emb y = ix2 R (y 1) := by
  blk_ext [idx t]

/-- Where the blocks of result 2 place their entries: rows `t * 256 + r` of the array. -/
theorem out8 (t : Fin cfg0.N) (y : S256x2816.Idx) (R : Fin 8192) (hR : R.val = t.val * 256 + (y 0).val) :
    ((View.whole main_v4_2).slice (win0_8.rect t)).emb y = ix2 R (y 1) := by
  blk_ext [idx t]

/-- Where the blocks of result 3 place their entries: rows `t * 256 + r` of the array. -/
theorem out9 (t : Fin cfg0.N) (y : S256x1024.Idx) (R : Fin 8192) (hR : R.val = t.val * 256 + (y 0).val) :
    ((View.whole main_v4_3).slice (win0_9.rect t)).emb y = ix2 R (y 1) := by
  blk_ext [idx t]

/-- The row of the array at row `r` of group `t`. -/
def row (t : Fin cfg0.N) (r : Fin 256) : Fin 8192 := ⟨t.val * 256 + r.val, by have h : t.val < 32 := t.isLt; omega⟩

theorem dblk_eq (c : Dev nD) (t : Fin cfg0.N) (a : Fin 256) (b : Fin 2816) :
    dblk (iblk m c 0 t) (iblk m c 5 t) a b = dact (aC m c) (aD m c) (row t a) b :=
  Finset.sum_congr rfl fun k _ => congrArg₂ (fun x y : EReal => x * y) (in0 m c t a (row t a) rfl k) (in5 m c t _)

/-- What point `t` leaves in the cotangent of the gate's projection. -/
theorem point6 (c : Dev nD) (t : Fin cfg0.N) (j : S256x2816.Idx) :
    k0_pay6 (iblk m c 0 t) (iblk m c 5 t) (iblk m c 1 t) (iblk m c 2 t) j
      = gate (aX m c) (aG m c) (aU m c) (aD m c) (aC m c) (row t (j 0)) (j 1) := by
  obtain ⟨a, b, rfl⟩ : ∃ a b, j = ix2 a b := ⟨j 0, j 1, (Cert.Stores.idx2_ext rfl rfl)⟩
  rw [pay6, in1 m c t a (row t a) rfl b, in2 m c t a (row t a) rfl b]
  show dblk (iblk m c 0 t) (iblk m c 5 t) a b * _ * _ = _
  rw [dblk_eq]; rfl

/-- What point `t` leaves in the cotangent of the up projection. -/
theorem point7 (c : Dev nD) (t : Fin cfg0.N) (j : S256x2816.Idx) :
    k0_pay7 (iblk m c 0 t) (iblk m c 5 t) (iblk m c 1 t) j
      = up (aX m c) (aG m c) (aD m c) (aC m c) (row t (j 0)) (j 1) := by
  obtain ⟨a, b, rfl⟩ : ∃ a b, j = ix2 a b := ⟨j 0, j 1, (Cert.Stores.idx2_ext rfl rfl)⟩
  rw [pay7, in1 m c t a (row t a) rfl b]
  show dblk (iblk m c 0 t) (iblk m c 5 t) a b * _ = _
  rw [dblk_eq]; rfl

theorem final6 (c : Dev nD) : (dats m 0 c).arrAt 6 (cfgs 0).N = gateA (aX m c) (aG m c) (aU m c) (aD m c) (aC m c) := by
  refine (dats m 0 c).arrAt_eq_of_covers 6 _ (by decide +kernel) fun t _ y => ?_
  blk_simp
  rw [after0_6]
  frame_out
  rw [point6, out6 t y (row t (y 0)) rfl]
  rfl

theorem final7 (c : Dev nD) : (dats m 0 c).arrAt 7 (cfgs 0).N = upA (aX m c) (aG m c) (aD m c) (aC m c) := by
  refine (dats m 0 c).arrAt_eq_of_covers 7 _ (by decide +kernel) fun t _ y => ?_
  blk_simp
  rw [after0_7]
  frame_out
  rw [point7, out7 t y (row t (y 0)) rfl]
  rfl

/-- What point `t` leaves in the activations. -/
theorem point8 (c : Dev nD) (t : Fin cfg0.N) (j : S256x2816.Idx) :
    k0_pay8 (iblk m c 1 t) (iblk m c 2 t) j = act (aX m c) (aG m c) (aU m c) (row t (j 0)) (j 1) := by
  obtain ⟨a, b, rfl⟩ : ∃ a b, j = ix2 a b := ⟨j 0, j 1, (Cert.Stores.idx2_ext rfl rfl)⟩
  rw [pay8, in1 m c t a (row t a) rfl b, in2 m c t a (row t a) rfl b]
  rfl

theorem final8 (c : Dev nD) : (dats m 0 c).arrAt 8 (cfgs 0).N = actA (aX m c) (aG m c) (aU m c) := by
  refine (dats m 0 c).arrAt_eq_of_covers 8 _ (by decide +kernel) fun t _ y => ?_
  blk_simp
  rw [after0_8]
  frame_out
  rw [point8, out8 t y (row t (y 0)) rfl]
  rfl

theorem final9 (c : Dev nD) : (dats m 0 c).arrAt 9 (cfgs 0).N = inputA (aX m c) (aG m c) (aU m c) (aD m c) (aC m c) := by
  refine (dats m 0 c).arrAt_eq_of_covers 9 _ (by decide +kernel) fun t _ y => ?_
  blk_simp
  rw [after0_9]
  frame_out
  rw [pay9, out9 t y (row t (y 0)) rfl]
  simp only [point6, point7, in3 m c t, in4 m c t]
  rfl

section Reference

open Cert.ReferenceIdeal.Read

variable (x : Rows) (wg wu : Wide) (wd : Tall) (d : Rows)

theorem ref5 (i : Fin 8192) (j : Fin 2816) : val_main_v5 (F := Ideal) x wg (ix2 i j) = proj x wg i j := by
  rw [val_main_v5_apply]
  exact Finset.sum_congr rfl fun k _ => congrArg₂ (fun a b : EReal => a * b)
    (congrArg x (Cert.Stores.idx2_ext rfl rfl)) (congrArg wg (Cert.Stores.idx2_ext rfl rfl))

theorem ref6 (i : Fin 8192) (j : Fin 2816) : val_main_v6 (F := Ideal) x wu (ix2 i j) = proj x wu i j := by
  rw [val_main_v6_apply]
  exact Finset.sum_congr rfl fun k _ => congrArg₂ (fun a b : EReal => a * b)
    (congrArg x (Cert.Stores.idx2_ext rfl rfl)) (congrArg wu (Cert.Stores.idx2_ext rfl rfl))

theorem ref10 (i : Fin 8192) (j : Fin 2816) : val_main_v10 (F := Ideal) wd d (ix2 i j) = dact d wd i j := by
  rw [val_main_v10_apply]
  exact Finset.sum_congr rfl fun k _ => congrArg₂ (fun a b : EReal => a * b)
    (congrArg d (Cert.Stores.idx2_ext rfl rfl)) (congrArg wd (Cert.Stores.idx2_ext rfl rfl))

/-- The reference's sigmoid. -/
theorem refσ (i : Fin 8192) (j : Fin 2816) : val_main_v7_2 (F := Ideal) x wg (ix2 i j) = Ideal.logistic (proj x wg i j) := by
  rw [val_main_v7_2_apply, val_main_call0_v4_apply, val_main_call0_v3_apply, val_main_call0_v2_apply, val_main_call0_v1_apply,
    val_main_call0_v0_apply, ref5]
  show Ideal.div (Ideal.ofBits .f32 0x3F800000#32) (Ideal.ofBits .f32 0x3F800000#32 + Ideal.exp (-proj x wg i j)) = _
  rw [Ideal.ofBits_one_f32]; rfl

theorem ref7 (i : Fin 8192) (j : Fin 2816) : val_main_v7_0 (F := Ideal) x wg (ix2 i j) = silu (proj x wg i j) := by
  rw [val_main_v7_0_apply, refσ, ref5]; rfl

theorem ref11 (i : Fin 8192) (j : Fin 2816) : val_main_v11 (F := Ideal) x wg wd d (ix2 i j) = up x wg wd d i j := by
  rw [val_main_v11_apply, ref7, ref10]; exact mul_comm _ _

/-- The reference's cotangent of the gate's projection, the kernel's where the cotangent of the activation is finite. -/
theorem ref13 (i : Fin 8192) (j : Fin 2816) (hu : Cert.Reals.Fin (proj x wu i j)) (hd : Cert.Reals.Fin (dact d wd i j)) :
    val_main_v13 (F := Ideal) x wg wu wd d (ix2 i j) = gate x wg wu wd d i j := by
  rw [val_main_v13_apply, val_main_call1_v1_apply, val_main_call1_v2_apply, val_main_call1_v0_apply, val_main_v12_apply,
    val_main_v7_1_apply, val_main_call0_v7_apply, val_main_call0_v6_apply, refσ, ref5, ref6, ref10]
  unfold gate
  rw [Cert.Reals.silu_grad _ _ (fin_mul hd hu)]
  show _ + _ * (_ * (Ideal.ofBits .f32 0x3F800000#32 - _)) = _
  rw [Ideal.ofBits_one_f32]; rfl

theorem ref17 (hu : ∀ i j, Cert.Reals.Fin (proj x wu i j)) (hd : ∀ i j, Cert.Reals.Fin (dact d wd i j)) :
    val_main_v17 (F := Ideal) x wg wu wd d = gateA x wg wu wd d := by
  funext j
  obtain ⟨a, b, rfl⟩ : ∃ a b, j = ix2 a b := ⟨j 0, j 1, (Cert.Stores.idx2_ext rfl rfl)⟩
  exact ref13 x wg wu wd d a b (hu a b) (hd a b)

theorem ref18 : val_main_v18 (F := Ideal) x wg wd d = upA x wg wd d := by
  funext j
  obtain ⟨a, b, rfl⟩ : ∃ a b, j = ix2 a b := ⟨j 0, j 1, (Cert.Stores.idx2_ext rfl rfl)⟩
  exact ref11 x wg wd d a b

theorem ref19 : val_main_v19 (F := Ideal) x wg wu = actA x wg wu := by
  funext j
  obtain ⟨a, b, rfl⟩ : ∃ a b, j = ix2 a b := ⟨j 0, j 1, (Cert.Stores.idx2_ext rfl rfl)⟩
  rw [val_main_v19_apply, val_main_v8_apply, ref7, ref6]; rfl

theorem ref16 (hu : ∀ i j, Cert.Reals.Fin (proj x wu i j)) (hd : ∀ i j, Cert.Reals.Fin (dact d wd i j)) :
    val_main_v16 (F := Ideal) x wg wu wd d = inputA x wg wu wd d := by
  funext j
  obtain ⟨a, b, rfl⟩ : ∃ a b, j = ix2 a b := ⟨j 0, j 1, (Cert.Stores.idx2_ext rfl rfl)⟩
  rw [val_main_v16_apply, val_main_v14_apply, val_main_v15_apply]
  refine (add_comm (G := EReal) _ _).trans (congrArg₂ (fun a b : EReal => a + b) ?_ ?_)
  · refine Finset.sum_congr rfl fun k _ => ?_
    rw [show lidx_main_v15 (ix2 a b) k = ix2 a k from Cert.Stores.idx2_ext rfl rfl, ref13 x wg wu wd d a k (hu a k) (hd a k)]
    exact congrArg₂ (fun a b : EReal => a * b) rfl (congrArg wg (Cert.Stores.idx2_ext rfl rfl))
  · refine Finset.sum_congr rfl fun k _ => ?_
    rw [show lidx_main_v14 (ix2 a b) k = ix2 a k from Cert.Stores.idx2_ext rfl rfl, ref11 x wg wd d a k]
    exact congrArg₂ (fun a b : EReal => a * b) rfl (congrArg wu (Cert.Stores.idx2_ext rfl rfl))

end Reference

/-- What the precondition gives: the block's input, the up and down projections' weights and the cotangent are finite. -/
theorem finite (h : Cert.Pre_KernelIdeal_finite m) (c : Dev nD) :
    (∀ i, Cert.Reals.Fin (aX m c i)) ∧ (∀ i, Cert.Reals.Fin (aU m c i)) ∧ (∀ i, Cert.Reals.Fin (aD m c i))
      ∧ ∀ i, Cert.Reals.Fin (aC m c i) := by
  have e := congrFun (h c) (fun a => a.elim0)
  unfold Cert.Pre_finite.fn Cert.Pre_finite.fn_part1 at e
  simp only [andi_apply, IntOp.andi_eq_one] at e
  obtain ⟨⟨⟨e0, e1⟩, e2⟩, e3⟩ := e
  haveI : Subsingleton Cert.Pre_finite.S_.Idx := ⟨fun a b => funext fun k => k.elim0⟩
  exact ⟨Cert.Reals.fin_of_all (aX m c) _ _ _ _ _ e0 fun i => rfl, Cert.Reals.fin_of_all (aU m c) _ _ _ _ _ e1 fun i => rfl,
    Cert.Reals.fin_of_all (aD m c) _ _ _ _ _ e2 fun i => rfl, Cert.Reals.fin_of_all (aC m c) _ _ _ _ _ e3 fun i => rfl⟩

/-- Kernel and reference end with the same four arrays. -/
theorem algebraic : Cert.algebraic_KernelIdeal_ReferenceIdeal_pre_finite := by
  intro m g m' g' hpre hagree
  have hu : ∀ c i j, Cert.Reals.Fin (proj (aX m c) (aU m c) i j) := fun c i j =>
    fin_sum _ _ fun k => fin_mul ((finite m hpre c).1 _) ((finite m hpre c).2.1 _)
  have hd : ∀ c i j, Cert.Reals.Fin (dact (aC m c) (aD m c) i j) := fun c i j =>
    fin_sum _ _ fun k => fin_mul ((finite m hpre c).2.2.2 _) ((finite m hpre c).2.2.1 _)
  refine ⟨fun c => gateA (aX m c) (aG m c) (aU m c) (aD m c) (aC m c), fun c => upA (aX m c) (aG m c) (aD m c) (aC m c),
    fun c => actA (aX m c) (aG m c) (aU m c), fun c => inputA (aX m c) (aG m c) (aU m c) (aD m c) (aC m c), ?_, ?_⟩
  · exact (θ_run _ _ _).mono (fun _ h c => ⟨(h c).1.trans (final6 m c), (h c).2.1.trans (final7 m c), (h c).2.2.1.trans (final8 m c),
      (h c).2.2.2.1.trans (final9 m c), (h c).2.2.2.2⟩) (Value.run_blocks (F := Ideal) m g)
  · refine (θ_run _ _ _).mono (fun _ h c => ?_) (Cert.ReferenceIdeal.Value.run (F := Ideal) m' g')
    obtain ⟨h0, h1, h2, h3, hk⟩ := h c
    obtain ⟨e0, e1, e2, e3, e4⟩ := hagree c
    rw [Cert.ReferenceIdeal.Read.val_main_v17_eq, e0, e1, e2, e3, e4] at h0
    rw [Cert.ReferenceIdeal.Read.val_main_v18_eq, e0, e1, e3, e4] at h1
    rw [Cert.ReferenceIdeal.Read.val_main_v19_eq, e0, e1, e2] at h2
    rw [Cert.ReferenceIdeal.Read.val_main_v16_eq, e0, e1, e2, e3, e4] at h3
    exact ⟨h0.trans (ref17 _ _ _ _ _ (hu c) (hd c)), h1.trans (ref18 _ _ _ _), h2.trans (ref19 _ _ _),
      h3.trans (ref16 _ _ _ _ _ (hu c) (hd c)), hk⟩

end Cert.KernelIdeal.FfnBwd

end
-- ==== Proof.Norms.lean ====
module

public import Idealize.ShloMosaic.Lib.Pipeline.ValueKit
public import Idealize.ShloMosaic.Lib.Pointwise

/-! # The root-mean-square norm's derivative

The kernels write the derivative of the norm as `r (w - x r² mean(w x))`; the reference's derivative comes as the product
`w r` and twice `x` times the derivative of the mean. The two are equal for all extended reals: where an entry of the row
is infinite the mean of the squares is `⊤`, the norm's factor `r` is zero, and with it every term. -/

@[expose] public section

noncomputable section

namespace Cert.Norms

open Idealize.ShloMosaic

/-- The words of the row's length, of the norm's epsilon and of a half. -/
theorem word_1024 : Ideal.ofBits .f32 0x44800000#32 = ((1024 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_1024th : Ideal.ofBits .f32 0x3A800000#32 = ((1 / 1024 : ℝ) : EReal) := by
  simp [Ideal.ofBits, Ideal.ieee, -EReal.coe_mul]; norm_num

theorem word_2048th : Ideal.ofBits .f32 0x3A000000#32 = ((1 / 2048 : ℝ) : EReal) := by
  simp [Ideal.ofBits, Ideal.ieee, -EReal.coe_mul]; norm_num

/-- The norm's epsilon. -/
abbrev eps : EReal := Ideal.ofBits .f32 0x358637BD#32

theorem eps_pos : ∃ e : ℝ, 0 < e ∧ eps = (e : EReal) := by
  refine ⟨8796093 / 2 ^ 43, by positivity, ?_⟩
  simp [eps, Ideal.ofBits, Ideal.ieee, -EReal.coe_mul]; norm_num

/-- A square is not negative. -/
theorem sq_nonneg (x : EReal) : 0 ≤ x * x := by
  induction x using EReal.rec with
  | bot => simp
  | top => simp
  | coe r => rw [← EReal.coe_mul]; exact_mod_cast mul_self_nonneg r

/-- The mean of squares and epsilon is a positive real or `⊤`. -/
theorem mean_pos {n : ℝ} (hn : 0 < n) (s : EReal) (hs : 0 ≤ s) :
    Ideal.div s (n : EReal) + eps = ⊤ ∨ ∃ v : ℝ, 0 < v ∧ Ideal.div s (n : EReal) + eps = (v : EReal) := by
  obtain ⟨e, he, h⟩ := eps_pos
  rw [h, Ideal.div_coe hn.ne']
  induction s using EReal.rec with
  | bot => exact absurd hs (by simp)
  | top => left; rw [EReal.top_mul_coe_of_pos (by positivity)]; exact EReal.top_add_coe e
  | coe r =>
    right
    have hr : 0 ≤ r := by exact_mod_cast hs
    exact ⟨r * (1 / n) + e, by positivity, by rw [EReal.coe_add, EReal.coe_mul]⟩

theorem neg_add_neg (b : EReal) : -b + -b = -(b + b) := by
  induction b using EReal.rec with
  | bot => simp
  | top => simp
  | coe r => simp only [← EReal.coe_neg, ← EReal.coe_add]; congr 1; ring

/-- The two forms of the norm's derivative, and what is added to them. -/
theorem rms_grad {n : ℝ} (hn : 0 < n) (v : EReal) (hv : v = ⊤ ∨ ∃ u : ℝ, 0 < u ∧ v = (u : EReal)) (h w x s : EReal) :
    h + Ideal.rsqrt v * (w - x * (Ideal.rsqrt v * Ideal.rsqrt v) * Ideal.div s (n : EReal))
      = h + w * Ideal.rsqrt v + x * Ideal.div (s * (((-(1 / 2) : ℝ) : EReal) * Ideal.div (Ideal.rsqrt v) v)) (n : EReal)
        + Ideal.div (s * (((-(1 / 2) : ℝ) : EReal) * Ideal.div (Ideal.rsqrt v) v)) (n : EReal) * x := by
  rw [Ideal.div_coe hn.ne', Ideal.div_coe hn.ne']
  rcases hv with rfl | ⟨u, hu, rfl⟩
  · have e : Ideal.div (0 : EReal) ⊤ = 0 := by unfold Ideal.div; simp
    rw [Ideal.rsqrt_top, e]; simp
  · rw [Ideal.rsqrt_coe, if_neg (not_lt.mpr hu.le), if_neg hu.ne', Ideal.div_coe hu.ne']
    have hr : 0 < (Real.sqrt u)⁻¹ := by positivity
    have hr2 : (Real.sqrt u)⁻¹ * (Real.sqrt u)⁻¹ = 1 / u := by
      rw [← mul_inv, Real.mul_self_sqrt hu.le, one_div]
    rw [← hr2]
    generalize (Real.sqrt u)⁻¹ = r at hr
    have hr0 : (0 : EReal) ≤ (r : EReal) := by exact_mod_cast hr.le
    rw [EReal.mul_sub_of_nonneg_of_ne_top hr0 (EReal.coe_ne_top r), sub_eq_add_neg, mul_comm (r : EReal) w]
    have hd : (0 : EReal) ≤ ((r * r * r * (1 / n) * (1 / 2) : ℝ) : EReal) := by
      have : 0 ≤ r * r * r * (1 / n) * (1 / 2) := by positivity
      exact_mod_cast this
    have e1 : (r : EReal) * (x * ((r : EReal) * r) * (s * ((1 / n : ℝ) : EReal)))
        = x * s * ((r * r * r * (1 / n) * (1 / 2) : ℝ) : EReal) + x * s * ((r * r * r * (1 / n) * (1 / 2) : ℝ) : EReal) := by
      rw [← EReal.left_distrib_of_nonneg hd hd, ← EReal.coe_add,
        show r * r * r * (1 / n) * (1 / 2) + r * r * r * (1 / n) * (1 / 2) = r * r * r * (1 / n) by ring,
        EReal.coe_mul, EReal.coe_mul, EReal.coe_mul]
      ac_rfl
    have e2 : s * (((-(1 / 2) : ℝ) : EReal) * ((r : EReal) * ((r * r : ℝ) : EReal))) * ((1 / n : ℝ) : EReal) * x
        = -(x * s * ((r * r * r * (1 / n) * (1 / 2) : ℝ) : EReal)) := by
      rw [← mul_neg, ← EReal.coe_neg, show -(r * r * r * (1 / n) * (1 / 2)) = -(1 / 2) * (r * (r * r)) * (1 / n) by ring]
      simp only [EReal.coe_mul]
      ac_rfl
    rw [mul_comm x (s * _ * _), e2, e1, ← neg_add_neg]
    simp only [add_assoc]

/-- The word of a row's length. -/
abbrev len : EReal := Ideal.ofBits .f32 0x44800000#32

/-- The mean of a row's squares, and epsilon. -/
def mean (x : Fin 1024 → EReal) : EReal := Ideal.div (∑ k, x k * x k) len + eps

/-- The norm's factor of a row. -/
def factor (x : Fin 1024 → EReal) : EReal := Ideal.rsqrt (mean x)

/-- The norm's derivative at column `j`: `x` the row, `d` the cotangent of the norm's output, `g` the gain. -/
def back (x d g : Fin 1024 → EReal) (j : Fin 1024) : EReal :=
  factor x * (d j * g j - x j * (factor x * factor x) * Ideal.div (∑ k, d k * g k * x k) len)

/-- What flows back through the mean of the squares, as the derivative of each operation in turn gives it. -/
def flow (x d g : Fin 1024 → EReal) : EReal :=
  Ideal.div ((∑ k, x k * (d k * g k)) * (Ideal.ofBits .f32 0xBF000000#32 * Ideal.div (factor x) (mean x))) len

/-- The derivative in one formula, and the derivative of each operation in turn. -/
theorem back_eq (x d g : Fin 1024 → EReal) (j : Fin 1024) (h : EReal) :
    h + back x d g j = h + d j * g j * factor x + x j * flow x d g + flow x d g * x j := by
  have hv := mean_pos (n := 1024) (by norm_num) (∑ k, x k * x k) (Finset.sum_nonneg fun k _ => sq_nonneg _)
  have e := rms_grad (n := 1024) (by norm_num) _ hv h (d j * g j) (x j) (∑ k, d k * g k * x k)
  rw [← word_1024, ← word_neg_half] at e
  have e' : (∑ k, x k * (d k * g k)) = ∑ k, d k * g k * x k := Finset.sum_congr rfl fun k _ => mul_comm _ _
  unfold flow
  rw [e']
  exact e

/-- A factor taken out of a sum of terms that are not negative. -/
theorem sum_mul_out {ι : Type*} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih,
      EReal.right_distrib_of_nonneg (hf a) (Finset.sum_nonneg fun i _ => hf i)]

end Cert.Norms

end
-- ==== Proof.FfnFwdLoss.lean ====
module

public import proofs.«01_k».proof.Defs
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Stores
public import proofs.«01_k».proof.Proof.Norms

/-! # The feed-forward block, the loss and the loss's derivative

The kernel takes 512 rows at a time: the two projections, the activation, the down projection, the norm after it, the
difference from the target; the derivative of the loss with respect to that difference and through the norm. Over the sixteen
groups it adds up the squares, column by column, and the gradient of the norm's gain; the last group gives the loss. -/

@[expose] public section

set_option maxRecDepth 16384

noncomputable section

namespace Cert.Kernel8Ideal.FfnFwdLoss

open Cert.Kernel8Ideal Cert.Kernel8Ideal.Gen Idealize.ShloMosaic Idealize.ShloMosaic.TcCoe Idealize.SL.Sem
open Idealize.ShloMosaic.Pipeline (Dat)
open Cert.Norms (factor back flow mean len)

abbrev Inp := (⟨S8192x1024, .bf16⟩ : BufTy).Contents (Elt Ideal)
abbrev Up := (⟨S1024x2816, .bf16⟩ : BufTy).Contents (Elt Ideal)
abbrev Down := (⟨S2816x1024, .bf16⟩ : BufTy).Contents (Elt Ideal)
abbrev Rows := (⟨S8192x1024, .f32⟩ : BufTy).Contents (Elt Ideal)
abbrev Gain := (⟨S1x1024, .f32⟩ : BufTy).Contents (Elt Ideal)
abbrev Proj := (⟨S8192x2816, .bf16⟩ : BufTy).Contents (Elt Ideal)
abbrev Loss := (⟨S1x128, .f32⟩ : BufTy).Contents (Elt Ideal)

/-- A row of the projection. -/
def proj (x : Fin 1024 → EReal) (w : Up) (j : Fin 2816) : EReal := ∑ k : Fin 1024, x k * w (ix2 k j)

/-- A row of the activation. -/
def act (x : Fin 1024 → EReal) (wg wu : Up) (j : Fin 2816) : EReal := proj x wg j * Ideal.logistic (proj x wg j) * proj x wu j

/-- A row of the down projection. -/
def down (x : Fin 1024 → EReal) (wg wu : Up) (wd : Down) (j : Fin 1024) : EReal := ∑ s : Fin 2816, act x wg wu s * wd (ix2 s j)

/-- The difference from the target: `f` a row of the down projection, `h` of the layer's stream, `t` of the target, `g` the gain. -/
def diff (f h t g : Fin 1024 → EReal) (j : Fin 1024) : EReal := h j + f j * factor f * g j - t j

/-- The loss's derivative with respect to the layer's output. -/
def slope (f h t g : Fin 1024 → EReal) (j : Fin 1024) : EReal := diff f h t g j * Ideal.ofBits .f32 0x3A800000#32

section Payloads

variable (x : Vec Ideal S512x1024 .bf16) (wg wu : Vec Ideal S1024x2816 .bf16) (wd : Vec Ideal S2816x1024 .bf16)
variable (h t p : Vec Ideal S512x1024 .f32) (g acc : Vec Ideal S1x1024 .f32)

theorem pay4 (a : Fin 512) (b : Fin 2816) : k0_pay4 x wg (ix2 a b) = proj (fun k => x (ix2 a k)) wg b := by
  pointwise [k0_pay4, proj]

theorem pay5 (a : Fin 512) (b : Fin 2816) : k0_pay5 x wu (ix2 a b) = proj (fun k => x (ix2 a k)) wu b := by
  pointwise [k0_pay5, proj]

theorem pay8 (a : Fin 512) (b : Fin 1024) : k0_pay8 x wg wu wd (ix2 a b) = down (fun k => x (ix2 a k)) wg wu wd b := by
  pointwise [k0_pay8, k0_pay4, k0_pay5, down, act, proj]

theorem pay9 (a : Fin 512) : k0_pay9 x wg wu wd (ix2 a 0) = factor fun k => k0_pay8 x wg wu wd (ix2 a k) := by
  pointwise [k0_pay9, factor, mean]

theorem pay10 (a : Fin 512) (b : Fin 1024) : k0_pay10 x wg wu wd g (ix2 a b)
    = k0_pay8 x wg wu wd (ix2 a b) * k0_pay9 x wg wu wd (ix2 a 0) * g (ix2 0 b) := by
  pointwise [k0_pay10]

theorem pay11 (j) : k0_pay11 h p t j = h j + p j - t j := by pointwise [k0_pay11]

theorem pay12 (j) : k0_pay12 h p t acc j = acc j + ∑ k : Fin 512, (k0_pay11 h p t (ix2 k (j 1)) * k0_pay11 h p t (ix2 k (j 1)) : EReal) := by
  pointwise [k0_pay12]

theorem pay13 (j) : k0_pay13 h p t j = k0_pay11 h p t j * Ideal.ofBits .f32 0x3A800000#32 := by pointwise [k0_pay13]

theorem pay14 (f : Vec Ideal S512x1024 .f32) (r : Vec Ideal S512x1 .f32) (j) : k0_pay14 f r h p t acc j
    = acc j + ∑ k : Fin 512, (k0_pay13 h p t (ix2 k (j 1)) * f (ix2 k (j 1)) * r (ix2 k 0) : EReal) := by
  pointwise [k0_pay14]

theorem pay15 (f : Vec Ideal S512x1024 .f32) (r : Vec Ideal S512x1 .f32) (a : Fin 512) (b : Fin 1024) :
    k0_pay15 f r g h p t (ix2 a b) = r (ix2 a 0) * (k0_pay13 h p t (ix2 a b) * g (ix2 0 b) - f (ix2 a b) * (r (ix2 a 0) * r (ix2 a 0))
      * Ideal.div (∑ k : Fin 1024, (k0_pay13 h p t (ix2 a k) * g (ix2 0 k) * f (ix2 a k) : EReal)) len) := by
  pointwise [k0_pay15]

theorem pay1 (j) : k0_pay1 acc j = Ideal.ofBits .f32 0x3A000000#32 * ∑ k : Fin 1024, (acc (ix2 0 k) : EReal) := by
  pointwise [k0_pay1]

theorem pay2 (j) : k0_pay2 (F := Ideal) j = 0 := by pointwise [k0_pay2]
theorem pay3 (j) : k0_pay3 (F := Ideal) j = 0 := by pointwise [k0_pay3]

end Payloads

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

/-- The arguments on device `c`. -/
abbrev aX (c : Dev nD) : Inp := m ((c : Thread nD τ).loc main_arg0)
abbrev aWg (c : Dev nD) : Up := m ((c : Thread nD τ).loc main_arg1)
abbrev aWu (c : Dev nD) : Up := m ((c : Thread nD τ).loc main_arg2)
abbrev aWd (c : Dev nD) : Down := m ((c : Thread nD τ).loc main_arg3)
abbrev aH (c : Dev nD) : Rows := m ((c : Thread nD τ).loc main_arg4)
abbrev aT (c : Dev nD) : Rows := m ((c : Thread nD τ).loc main_arg5)
abbrev aG (c : Dev nD) : Gain := m ((c : Thread nD τ).loc main_arg6)

section Results
variable (X : Inp) (Wg Wu : Up) (Wd : Down) (H T : Rows) (G : Gain)

/-- Row `i` of the down projection, of the difference and of the slope. -/
def fRow (i : Fin 8192) : Fin 1024 → EReal := down (fun k => X (ix2 i k)) Wg Wu Wd
def dRow (i : Fin 8192) : Fin 1024 → EReal := diff (fRow X Wg Wu Wd i) (fun k => H (ix2 i k)) (fun k => T (ix2 i k)) (fun k => G (ix2 0 k))
def sRow (i : Fin 8192) (j : Fin 1024) : EReal := dRow X Wg Wu Wd H T G i j * Ideal.ofBits .f32 0x3A800000#32

/-- The six results. -/
def gateA : Proj := fun j => proj (fun k => X (ix2 (j 0) k)) Wg (j 1)
def upA : Proj := fun j => proj (fun k => X (ix2 (j 0) k)) Wu (j 1)
def dfA : Inp := fun j => back (fRow X Wg Wu Wd (j 0)) (sRow X Wg Wu Wd H T G (j 0)) (fun k => G (ix2 0 k)) (j 1)
def slopeA : Rows := fun j => sRow X Wg Wu Wd H T G (j 0) (j 1)
def lossA : Loss := fun _ => Ideal.ofBits .f32 0x3A000000#32
  * ∑ k : Fin 1024, ∑ i : Fin 8192, dRow X Wg Wu Wd H T G i k * dRow X Wg Wu Wd H T G i k
def gainA : Gain := fun j => ∑ i : Fin 8192, sRow X Wg Wu Wd H T G i (j 1) * fRow X Wg Wu Wd i (j 1) * factor (fRow X Wg Wu Wd i)

end Results

/-- The row of the array at row `r` of group `t`. -/
def row (t : Fin cfg0.N) (r : Fin 512) : Fin 8192 := ⟨t.val * 512 + r.val, by have h : t.val < 16 := t.isLt; omega⟩

section Blocks
variable (c : Dev nD) (t : Fin cfg0.N)

theorem in0 (r : Fin 512) (R : Fin 8192) (hR : R.val = t.val * 512 + r.val) (k : Fin 1024) :
    (iblk m c 0 t : Vec Ideal S512x1024 .bf16) (ix2 r k) = aX m c (ix2 R k) := by blk_point [iblk, V, idx t]
theorem in1 (j : S1024x2816.Idx) : (iblk m c 1 t : Vec Ideal S1024x2816 .bf16) j = aWg m c j := by blk_point [iblk, V, idx t]
theorem in2 (j : S1024x2816.Idx) : (iblk m c 2 t : Vec Ideal S1024x2816 .bf16) j = aWu m c j := by blk_point [iblk, V, idx t]
theorem in3 (j : S2816x1024.Idx) : (iblk m c 3 t : Vec Ideal S2816x1024 .bf16) j = aWd m c j := by blk_point [iblk, V, idx t]
theorem in4 (r : Fin 512) (R : Fin 8192) (hR : R.val = t.val * 512 + r.val) (k : Fin 1024) :
    (iblk m c 4 t : Vec Ideal S512x1024 .f32) (ix2 r k) = aH m c (ix2 R k) := by blk_point [iblk, V, idx t]
theorem in5 (r : Fin 512) (R : Fin 8192) (hR : R.val = t.val * 512 + r.val) (k : Fin 1024) :
    (iblk m c 5 t : Vec Ideal S512x1024 .f32) (ix2 r k) = aT m c (ix2 R k) := by blk_point [iblk, V, idx t]
theorem in6 (j : S1x1024.Idx) : (iblk m c 6 t : Vec Ideal S1x1024 .f32) j = aG m c j := by blk_point [iblk, V, idx t]

/-- The rows of device `c`'s arguments. -/
abbrev fR (i : Fin 8192) := fRow (aX m c) (aWg m c) (aWu m c) (aWd m c) i
abbrev dR (i : Fin 8192) := dRow (aX m c) (aWg m c) (aWu m c) (aWd m c) (aH m c) (aT m c) (aG m c) i
abbrev sR (i : Fin 8192) := sRow (aX m c) (aWg m c) (aWu m c) (aWd m c) (aH m c) (aT m c) (aG m c) i

/-- The blocks of the down projection, of its norm's factor, of the norm, of the difference, of the slope. -/
abbrev fblk : Vec Ideal S512x1024 .f32 := k0_pay8 (iblk m c 0 t) (iblk m c 1 t) (iblk m c 2 t) (iblk m c 3 t)
abbrev rblk : Vec Ideal S512x1 .f32 := k0_pay9 (iblk m c 0 t) (iblk m c 1 t) (iblk m c 2 t) (iblk m c 3 t)
abbrev nblk : Vec Ideal S512x1024 .f32 := k0_pay10 (iblk m c 0 t) (iblk m c 1 t) (iblk m c 2 t) (iblk m c 3 t) (iblk m c 6 t)
abbrev dblk : Vec Ideal S512x1024 .f32 := k0_pay11 (iblk m c 4 t) (nblk m c t) (iblk m c 5 t)
abbrev sblk : Vec Ideal S512x1024 .f32 := k0_pay13 (iblk m c 4 t) (nblk m c t) (iblk m c 5 t)

theorem gblk_eq (a : Fin 512) (b : Fin 2816) : k0_pay4 (iblk m c 0 t) (iblk m c 1 t) (ix2 a b)
    = proj (fun k => aX m c (ix2 (row t a) k)) (aWg m c) b := by
  refine (pay4 (iblk m c 0 t) (iblk m c 1 t) a b).trans ?_
  rw [funext (fun k => in0 m c t a (row t a) rfl k), funext (in1 m c t)]

theorem ublk_eq (a : Fin 512) (b : Fin 2816) : k0_pay5 (iblk m c 0 t) (iblk m c 2 t) (ix2 a b)
    = proj (fun k => aX m c (ix2 (row t a) k)) (aWu m c) b := by
  refine (pay5 (iblk m c 0 t) (iblk m c 2 t) a b).trans ?_
  rw [funext (fun k => in0 m c t a (row t a) rfl k), funext (in2 m c t)]

theorem fblk_eq (a : Fin 512) (b : Fin 1024) : fblk m c t (ix2 a b) = fR m c (row t a) b := by
  refine (pay8 (iblk m c 0 t) (iblk m c 1 t) (iblk m c 2 t) (iblk m c 3 t) a b).trans ?_
  unfold fR fRow
  rw [funext (fun k => in0 m c t a (row t a) rfl k), funext (in1 m c t), funext (in2 m c t), funext (in3 m c t)]

theorem rblk_eq (a : Fin 512) : rblk m c t (ix2 a 0) = factor (fR m c (row t a)) :=
  (pay9 (iblk m c 0 t) (iblk m c 1 t) (iblk m c 2 t) (iblk m c 3 t) a).trans (congrArg factor (funext fun k => fblk_eq m c t a k))

theorem dblk_eq (a : Fin 512) (b : Fin 1024) : dblk m c t (ix2 a b) = dR m c (row t a) b := by
  refine (pay11 (iblk m c 4 t) (iblk m c 5 t) (nblk m c t) (ix2 a b)).trans ?_
  unfold dR dRow diff
  refine congrArg₂ (fun x y : EReal => x - y) (congrArg₂ (fun x y : EReal => x + y) (in4 m c t a (row t a) rfl b) ?_) (in5 m c t a (row t a) rfl b)
  refine (pay10 (iblk m c 0 t) (iblk m c 1 t) (iblk m c 2 t) (iblk m c 3 t) (iblk m c 6 t) a b).trans ?_
  exact congrArg₂ (fun x y : EReal => x * y) (congrArg₂ (fun x y : EReal => x * y) (fblk_eq m c t a b) (rblk_eq m c t a)) (in6 m c t _)

theorem sblk_eq (a : Fin 512) (b : Fin 1024) : sblk m c t (ix2 a b) = sR m c (row t a) b :=
  (pay13 (iblk m c 4 t) (iblk m c 5 t) (nblk m c t) (ix2 a b)).trans (congrArg (fun x : EReal => x * _) (dblk_eq m c t a b))

/-- What point `t` leaves in the first results. -/
theorem point7 (j : S512x2816.Idx) : k0_pay6 (iblk m c 0 t) (iblk m c 1 t) j = gateA (aX m c) (aWg m c) (ix2 (row t (j 0)) (j 1)) := by
  obtain ⟨a, b, rfl⟩ : ∃ a b, j = ix2 a b := ⟨j 0, j 1, Cert.Stores.idx2_ext rfl rfl⟩
  exact gblk_eq m c t a b

theorem point8 (j : S512x2816.Idx) : k0_pay7 (iblk m c 0 t) (iblk m c 2 t) j = upA (aX m c) (aWu m c) (ix2 (row t (j 0)) (j 1)) := by
  obtain ⟨a, b, rfl⟩ : ∃ a b, j = ix2 a b := ⟨j 0, j 1, Cert.Stores.idx2_ext rfl rfl⟩
  exact ublk_eq m c t a b

theorem point9 (j : S512x1024.Idx) :
    k0_pay15 (fblk m c t) (rblk m c t) (iblk m c 6 t) (iblk m c 4 t) (nblk m c t) (iblk m c 5 t) j
      = dfA (aX m c) (aWg m c) (aWu m c) (aWd m c) (aH m c) (aT m c) (aG m c) (ix2 (row t (j 0)) (j 1)) := by
  obtain ⟨a, b, rfl⟩ : ∃ a b, j = ix2 a b := ⟨j 0, j 1, Cert.Stores.idx2_ext rfl rfl⟩
  refine (pay15 (iblk m c 4 t) (iblk m c 5 t) (nblk m c t) (iblk m c 6 t) (fblk m c t) (rblk m c t) a b).trans ?_
  simp only [sblk_eq, fblk_eq, rblk_eq, in6 m c t]
  rfl

theorem point10 (j : S512x1024.Idx) :
    sblk m c t j = slopeA (aX m c) (aWg m c) (aWu m c) (aWd m c) (aH m c) (aT m c) (aG m c) (ix2 (row t (j 0)) (j 1)) := by
  obtain ⟨a, b, rfl⟩ : ∃ a b, j = ix2 a b := ⟨j 0, j 1, Cert.Stores.idx2_ext rfl rfl⟩
  exact sblk_eq m c t a b

theorem out7 (y : S512x2816.Idx) (R : Fin 8192) (hR : R.val = t.val * 512 + (y 0).val) :
    ((View.whole main_v0_0).slice (win0_7.rect t)).emb y = ix2 R (y 1) := by
  blk_ext [idx t]
theorem out8 (y : S512x2816.Idx) (R : Fin 8192) (hR : R.val = t.val * 512 + (y 0).val) :
    ((View.whole main_v0_1).slice (win0_8.rect t)).emb y = ix2 R (y 1) := by
  blk_ext [idx t]
theorem out9 (y : S512x1024.Idx) (R : Fin 8192) (hR : R.val = t.val * 512 + (y 0).val) :
    ((View.whole main_v0_2).slice (win0_9.rect t)).emb y = ix2 R (y 1) := by
  blk_ext [idx t]
theorem out10 (y : S512x1024.Idx) (R : Fin 8192) (hR : R.val = t.val * 512 + (y 0).val) :
    ((View.whole main_v0_3).slice (win0_10.rect t)).emb y = ix2 R (y 1) := by
  blk_ext [idx t]

/-- What group `t` adds to the squares and to the gradient of the gain. -/
def sqTerm (j : S1x1024.Idx) : EReal := ∑ k : Fin 512, dR m c (row t k) (j 1) * dR m c (row t k) (j 1)
def gainTerm (j : S1x1024.Idx) : EReal := ∑ k : Fin 512, sR m c (row t k) (j 1) * fR m c (row t k) (j 1) * factor (fR m c (row t k))

theorem pointS (acc : Vec Ideal S1x1024 .f32) (j : S1x1024.Idx) :
    k0_pay12 (iblk m c 4 t) (nblk m c t) (iblk m c 5 t) acc j = (acc j : EReal) + sqTerm m c t j := by
  refine (pay12 (iblk m c 4 t) (iblk m c 5 t) (nblk m c t) acc j).trans ?_
  refine congrArg (fun x : EReal => (acc j : EReal) + x) (Finset.sum_congr rfl fun k _ => ?_)
  exact congrArg₂ (fun x y : EReal => x * y) (dblk_eq m c t k (j 1)) (dblk_eq m c t k (j 1))

/-- The scratch as the point before left it. -/
theorem pointU (h : (Memref.whole cc0_scratch0).IsWhole) (X : Vec Ideal S1x1024 .f32) (j : S1x1024.Idx) :
    k0_pay12 (iblk m c 4 t) (nblk m c t) (iblk m c 5 t) (View.read (Elt Ideal) (View.whole cc0_scratch0) (h.unread X)) j
      = (X j : EReal) + sqTerm m c t j :=
  (congrArg (fun acc : Vec Ideal S1x1024 .f32 => k0_pay12 (iblk m c 4 t) (nblk m c t) (iblk m c 5 t) acc j) (h.read_unread X)).trans
    (pointS m c t X j)

theorem point12 (acc : Vec Ideal S1x1024 .f32) (j : S1x1024.Idx) :
    k0_pay14 (fblk m c t) (rblk m c t) (iblk m c 4 t) (nblk m c t) (iblk m c 5 t) acc j = (acc j : EReal) + gainTerm m c t j := by
  refine (pay14 (iblk m c 4 t) (iblk m c 5 t) (nblk m c t) acc (fblk m c t) (rblk m c t) j).trans ?_
  refine congrArg (fun x : EReal => (acc j : EReal) + x) (Finset.sum_congr rfl fun k _ => ?_)
  exact congrArg₂ (fun x y : EReal => x * y) (congrArg₂ (fun x y : EReal => x * y) (sblk_eq m c t k (j 1)) (fblk_eq m c t k (j 1)))
    (rblk_eq m c t k)

theorem first (j) : (outsAt0 m c t.val t.isLt).1 j = gateA (aX m c) (aWg m c) (ix2 (row t (j 0)) (j 1)) := by
  by_cases h : t.val % 16 = 0
  · rw [outsAt0_A m c t h (by omega)]; frame_out; exact point7 m c t j
  · by_cases h1 : t.val % 16 = 15
    · rw [outsAt0_C m c t h h1]; frame_out; exact point7 m c t j
    · rw [outsAt0_B m c t h h1]; frame_out; exact point7 m c t j

theorem second (j) : (outsAt0 m c t.val t.isLt).2.1 j = upA (aX m c) (aWu m c) (ix2 (row t (j 0)) (j 1)) := by
  by_cases h : t.val % 16 = 0
  · rw [outsAt0_A m c t h (by omega)]; frame_out; exact point8 m c t j
  · by_cases h1 : t.val % 16 = 15
    · rw [outsAt0_C m c t h h1]; frame_out; exact point8 m c t j
    · rw [outsAt0_B m c t h h1]; frame_out; exact point8 m c t j

theorem third (j) : (outsAt0 m c t.val t.isLt).2.2.1 j
    = dfA (aX m c) (aWg m c) (aWu m c) (aWd m c) (aH m c) (aT m c) (aG m c) (ix2 (row t (j 0)) (j 1)) := by
  by_cases h : t.val % 16 = 0
  · rw [outsAt0_A m c t h (by omega)]; frame_out; exact point9 m c t j
  · by_cases h1 : t.val % 16 = 15
    · rw [outsAt0_C m c t h h1]; frame_out; exact point9 m c t j
    · rw [outsAt0_B m c t h h1]; frame_out; exact point9 m c t j

theorem fourth (j) : (outsAt0 m c t.val t.isLt).2.2.2.1 j
    = slopeA (aX m c) (aWg m c) (aWu m c) (aWd m c) (aH m c) (aT m c) (aG m c) (ix2 (row t (j 0)) (j 1)) := by
  by_cases h : t.val % 16 = 0
  · rw [outsAt0_A m c t h (by omega)]; frame_out; exact point10 m c t j
  · by_cases h1 : t.val % 16 = 15
    · rw [outsAt0_C m c t h h1]; frame_out; exact point10 m c t j
    · rw [outsAt0_B m c t h h1]; frame_out; exact point10 m c t j

theorem gainA0 (h : t.val % 16 = 0) (j) : (outsAt0 m c t.val t.isLt).2.2.2.2.2.1 j = (0 : EReal) + gainTerm m c t j := by
  rw [outsAt0_A m c t h (by omega)]; frame_out
  rw [← pay3 j]; exact point12 m c t _ j

theorem gainB (h : ¬t.val % 16 = 0) (j) : (outsAt0 m c t.val t.isLt).2.2.2.2.2.1 j
    = ((outsAt0 m c (t.val - 1) (Nat.lt_of_le_of_lt (Nat.sub_le _ _) t.isLt)).2.2.2.2.2.1 j : EReal) + gainTerm m c t j := by
  by_cases h1 : t.val % 16 = 15
  · rw [outsAt0_C m c t h h1]; frame_out; exact point12 m c t _ j
  · rw [outsAt0_B m c t h h1]; frame_out; exact point12 m c t _ j

theorem sqA0 (h : t.val % 16 = 0) (j) : (outsAt0 m c t.val t.isLt).2.2.2.2.2.2 j = (0 : EReal) + sqTerm m c t j := by
  rw [outsAt0_A m c t h (by omega)]; frame_out
  rw [← pay2 j]; exact pointS m c t _ j

theorem sqB (h : ¬t.val % 16 = 0) (j) : (outsAt0 m c t.val t.isLt).2.2.2.2.2.2 j
    = ((outsAt0 m c (t.val - 1) (Nat.lt_of_le_of_lt (Nat.sub_le _ _) t.isLt)).2.2.2.2.2.2 j : EReal) + sqTerm m c t j := by
  by_cases h1 : t.val % 16 = 15
  · rw [outsAt0_C m c t h h1]; frame_out; exact pointU m c t _ _ j
  · rw [outsAt0_B m c t h h1]; frame_out; exact pointU m c t _ _ j

theorem lossC (h : t.val % 16 = 15) (j) : (outsAt0 m c t.val t.isLt).2.2.2.2.1 j
    = Ideal.ofBits .f32 0x3A000000#32 * ∑ k : Fin 1024, ((outsAt0 m c t.val t.isLt).2.2.2.2.2.2 (ix2 0 k) : EReal) := by
  rw [outsAt0_C m c t (by omega) h]; frame_out
  exact pay1 _ j

end Blocks

theorem final7 (c : Dev nD) : (dats m 0 c).arrAt 7 (cfgs 0).N = gateA (aX m c) (aWg m c) := by
  refine (dats m 0 c).arrAt_eq_of_covers 7 _ (by decide +kernel) fun t _ y => ?_
  blk_simp
  rw [after0_7, first, out7 t y (row t (y 0)) rfl]
  rfl

theorem final8 (c : Dev nD) : (dats m 0 c).arrAt 8 (cfgs 0).N = upA (aX m c) (aWu m c) := by
  refine (dats m 0 c).arrAt_eq_of_covers 8 _ (by decide +kernel) fun t _ y => ?_
  blk_simp
  rw [after0_8, second, out8 t y (row t (y 0)) rfl]
  rfl

theorem final9 (c : Dev nD) : (dats m 0 c).arrAt 9 (cfgs 0).N
    = dfA (aX m c) (aWg m c) (aWu m c) (aWd m c) (aH m c) (aT m c) (aG m c) := by
  refine (dats m 0 c).arrAt_eq_of_covers 9 _ (by decide +kernel) fun t _ y => ?_
  blk_simp
  rw [after0_9, third, out9 t y (row t (y 0)) rfl]
  rfl

theorem final10 (c : Dev nD) : (dats m 0 c).arrAt 10 (cfgs 0).N
    = slopeA (aX m c) (aWg m c) (aWu m c) (aWd m c) (aH m c) (aT m c) (aG m c) := by
  refine (dats m 0 c).arrAt_eq_of_covers 10 _ (by decide +kernel) fun t _ y => ?_
  blk_simp
  rw [after0_10, fourth, out10 t y (row t (y 0)) rfl]
  rfl

/-- The squares after the last group, column by column. -/
theorem squares (c : Dev nD) (k : Fin 1024) : (outsAt0 m c t0_15.val t0_15.isLt).2.2.2.2.2.2 (ix2 0 k)
    = ∑ i : Fin 8192, dR m c i k * dR m c i k := by
  rw [Pipeline.eq_sum_fin_of_reset_step_apply_last (fun n h => (outsAt0 m c n h).2.2.2.2.2.2) 16 (fun _ => 0) (sqTerm m c)
    (fun t h j => sqA0 m c t h j) (fun t h j => sqB m c t h j) (le_of_eq N_0) t0_15 rfl (ix2 0 k), zero_add]
  unfold sqTerm
  exact Fin.sum_mul_add_congr fun t k hl => rfl

theorem final11 (c : Dev nD) : (dats m 0 c).arrAt 11 (cfgs 0).N
    = lossA (aX m c) (aWg m c) (aWu m c) (aWd m c) (aH m c) (aT m c) (aG m c) := by
  refine (dats m 0 c).arrAt_eq_of_after_last 11 t0_15 (by decide +kernel) _ fun j => ?_
  blk_simp
  rw [after0_11, lossC m c t0_15 (by rfl)]
  simp only [squares]
  rfl

theorem final12 (c : Dev nD) : (dats m 0 c).arrAt 12 (cfgs 0).N
    = gainA (aX m c) (aWg m c) (aWu m c) (aWd m c) (aH m c) (aT m c) (aG m c) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2.1) 16 (fun _ => 0) (gainTerm m c)
    (fun t h j => gainA0 m c t h j) (fun t h j => gainB m c t h j) (le_of_eq N_0) t0_15 rfl j, zero_add]
  unfold gainA gainTerm
  exact Fin.sum_mul_add_congr fun t k hl => rfl

section Reference

open Cert.Reference8Ideal.Read

variable (X : Inp) (Wg Wu : Up) (Wd : Down) (H T : Rows) (G : Gain)

theorem ref4 (i : Fin 8192) (j : Fin 2816) : val_main_v4 (F := Ideal) X Wg (ix2 i j) = proj (fun k => X (ix2 i k)) Wg j := by
  rw [val_main_v4_apply]
  exact Finset.sum_congr rfl fun k _ => congrArg₂ (fun a b : EReal => a * b)
    (congrArg X (Cert.Stores.idx2_ext rfl rfl)) (congrArg Wg (Cert.Stores.idx2_ext rfl rfl))

theorem ref5 (i : Fin 8192) (j : Fin 2816) : val_main_v5 (F := Ideal) X Wu (ix2 i j) = proj (fun k => X (ix2 i k)) Wu j := by
  rw [val_main_v5_apply]
  exact Finset.sum_congr rfl fun k _ => congrArg₂ (fun a b : EReal => a * b)
    (congrArg X (Cert.Stores.idx2_ext rfl rfl)) (congrArg Wu (Cert.Stores.idx2_ext rfl rfl))

theorem ref7 (i : Fin 8192) (j : Fin 2816) : val_main_v7 (F := Ideal) X Wg Wu (ix2 i j) = act (fun k => X (ix2 i k)) Wg Wu j := by
  rw [val_main_v7_apply, val_main_v6_apply, val_main_call0_v5_apply, val_main_call0_v4_apply, val_main_call0_v3_apply,
    val_main_call0_v2_apply, val_main_call0_v1_apply, val_main_call0_v0_apply, ref4, ref5]
  show _ * Ideal.div (Ideal.ofBits .f32 0x3F800000#32) (Ideal.ofBits .f32 0x3F800000#32 + Ideal.exp (-_)) * _ = _
  rw [Ideal.ofBits_one_f32]; rfl

theorem ref8 (i : Fin 8192) (j : Fin 1024) : val_main_v8 (F := Ideal) X Wg Wu Wd (ix2 i j) = fRow X Wg Wu Wd i j := by
  rw [val_main_v8_apply]
  unfold fRow down
  refine Finset.sum_congr rfl fun s _ => ?_
  rw [show lidx_main_v8 (ix2 i j) s = ix2 i s from Cert.Stores.idx2_ext rfl rfl, ref7]
  exact congrArg (fun y : EReal => act (fun k => X (ix2 i k)) Wg Wu s * y) (congrArg Wd (Cert.Stores.idx2_ext rfl rfl))

theorem ref15 (i : Fin 8192) : val_main_v15 (F := Ideal) X Wg Wu Wd (ix2 i 0) = mean (fRow X Wg Wu Wd i) := by
  rw [show fRow X Wg Wu Wd i = fun j => val_main_v8 (F := Ideal) X Wg Wu Wd (ix2 i j) from funext fun j => (ref8 X Wg Wu Wd i j).symm]
  pointwise [val_main_v15, val_main_v14, val_main_v13, val_main_v12, val_main_v11, val_main_v10, val_main_v9,
    val_main_cst, val_main_cst_0, val_main_cst_1, mean]

theorem ref16 (i : Fin 8192) : val_main_v16 (F := Ideal) X Wg Wu Wd (ix2 i 0) = factor (fRow X Wg Wu Wd i) := by
  rw [val_main_v16_apply, ref15]; rfl

theorem ref25 (i : Fin 8192) (j : Fin 1024) : val_main_v25 (F := Ideal) X Wg Wu Wd H T G (ix2 i j) = dRow X Wg Wu Wd H T G i j := by
  unfold dRow diff
  rw [← ref8, ← ref16]
  pointwise [val_main_v25, val_main_v24, val_main_v23, val_main_v22, val_main_v21, val_main_v20]

theorem ref59 : val_main_v59 (F := Ideal) X Wg = gateA X Wg := by
  funext j
  obtain ⟨a, b, rfl⟩ : ∃ a b, j = ix2 a b := ⟨j 0, j 1, Cert.Stores.idx2_ext rfl rfl⟩
  rw [val_main_v59_apply, ref4]; rfl

theorem ref60 : val_main_v60 (F := Ideal) X Wu = upA X Wu := by
  funext j
  obtain ⟨a, b, rfl⟩ : ∃ a b, j = ix2 a b := ⟨j 0, j 1, Cert.Stores.idx2_ext rfl rfl⟩
  rw [val_main_v60_apply, ref5]; rfl

/-- Half of twice the difference over the row's length, and the difference over the row's length. -/
theorem scale (d : EReal) : Ideal.div (Ideal.ofBits .f32 0x3F000000#32 * Ideal.ofBits .f32 0x3F800000#32) (Ideal.ofBits .f32 0x44800000#32)
    * (Ideal.ofBits .f32 0x40000000#32 * d) = d * Ideal.ofBits .f32 0x3A800000#32 := by
  rw [Cert.Norms.word_half, Ideal.ofBits_one_f32, Cert.Norms.word_1024, Cert.Norms.word_two, Cert.Norms.word_1024th, mul_one,
    Ideal.div_coe (by norm_num), ← mul_assoc, ← EReal.coe_mul, ← EReal.coe_mul, mul_comm]
  congr 2; norm_num

theorem ref39 (i : Fin 8192) (j : Fin 1024) : val_main_v39 (F := Ideal) X Wg Wu Wd H T G (ix2 i j) = sRow X Wg Wu Wd H T G i j := by
  unfold sRow
  rw [← ref25, ← scale]
  pointwise [val_main_v39, val_main_v38, val_main_v37, val_main_v36, val_main_v35, val_main_v34, val_main_v28, val_main_v27,
    val_main_cst_3, val_main_cst_8, val_main_cst_9, val_main_cst_10]

theorem ref39A : val_main_v39 (F := Ideal) X Wg Wu Wd H T G = slopeA X Wg Wu Wd H T G := by
  funext j
  obtain ⟨a, b, rfl⟩ : ∃ a b, j = ix2 a b := ⟨j 0, j 1, Cert.Stores.idx2_ext rfl rfl⟩
  exact ref39 X Wg Wu Wd H T G a b

theorem ref53 (i : Fin 8192) : val_main_v53 (F := Ideal) X Wg Wu Wd H T G (ix1 i)
    = flow (fRow X Wg Wu Wd i) (sRow X Wg Wu Wd H T G i) (fun k => G (ix2 0 k)) := by
  unfold flow
  rw [← ref16, ← ref15]
  simp only [← ref8, ← ref39]
  pointwise [val_main_v53, val_main_v52, val_main_v51, val_main_v50, val_main_v47, val_main_v46, val_main_v45, val_main_v44, val_main_v43,
    val_main_v19, val_main_v18, val_main_v17, val_main_cst_2, val_main_cst_12, val_main_cst_13, val_main_cst_14]
  have one : ∀ f : Fin 1 → EReal, ∑ x, f x = f 0 := fun f => Fin.sum_univ_one f
  rw [one]

theorem ref61 : val_main_v61 (F := Ideal) X Wg Wu Wd H T G = dfA X Wg Wu Wd H T G := by
  funext j
  obtain ⟨a, b, rfl⟩ : ∃ a b, j = ix2 a b := ⟨j 0, j 1, Cert.Stores.idx2_ext rfl rfl⟩
  pointwise [val_main_v61, val_main_v58, val_main_v57, val_main_v56, val_main_v55, val_main_v54, val_main_v49, val_main_v48, val_main_v44,
    val_main_v43]
  rw [ref53, ref39, ref16, ref8]
  have e := Cert.Norms.back_eq (fRow X Wg Wu Wd a) (sRow X Wg Wu Wd H T G a) (fun k => G (ix2 0 k)) b 0
  rw [zero_add, zero_add] at e
  exact e.symm

theorem ref42 : val_main_v42 (F := Ideal) X Wg Wu Wd H T G = gainA X Wg Wu Wd H T G := by
  funext j
  obtain ⟨a, b, rfl⟩ : ∃ a b, j = ix2 a b := ⟨j 0, j 1, Cert.Stores.idx2_ext rfl rfl⟩
  pointwise [val_main_v42, val_main_v41, val_main_v40, val_main_v21, val_main_v20, val_main_cst_11]
  refine Finset.sum_congr rfl fun k _ => ?_
  rw [ref8, ref16, ref39, mul_comm, ← mul_assoc]
  rfl

/-- Half of the sum of the rows' means of squares. -/
theorem half_mean (f : Fin 8192 → Fin 1024 → EReal) :
    Ideal.ofBits .f32 0x3F000000#32 * ∑ i, Ideal.div (∑ k, f i k * f i k) (Ideal.ofBits .f32 0x44800000#32)
      = Ideal.ofBits .f32 0x3A000000#32 * ∑ k, ∑ i, f i k * f i k := by
  rw [Cert.Norms.word_half, Cert.Norms.word_1024, Cert.Norms.word_2048th]
  simp only [Ideal.div_coe (by norm_num : (1024 : ℝ) ≠ 0)]
  rw [Cert.Norms.sum_mul_out _ _ (fun i => Finset.sum_nonneg fun k _ => Cert.Norms.sq_nonneg _), Finset.sum_comm, mul_left_comm, ← EReal.coe_mul,
    mul_comm]
  congr 2; norm_num

theorem ref62 : val_main_v62 (F := Ideal) X Wg Wu Wd H T G = lossA X Wg Wu Wd H T G := by
  funext j
  unfold lossA
  simp only [← ref25]
  pointwise [val_main_v62, val_main_v33, val_main_v32, val_main_v31, val_main_v30, val_main_v29, val_main_v26,
    val_main_cst_4, val_main_cst_5, val_main_cst_6, val_main_cst_7]
  generalize hf : (fun (i : Fin 8192) (k : Fin 1024) => (val_main_v25 (F := Ideal) X Wg Wu Wd H T G (ix2 i k) : EReal)) = f
  have e : ∀ i k, (val_main_v25 (F := Ideal) X Wg Wu Wd H T G (ix2 i k) : EReal) = f i k := fun i k => congrFun (congrFun hf i) k
  simp only [e]
  exact half_mean f

end Reference

/-- Kernel and reference end with the same six arrays. -/
theorem algebraic : Cert.algebraic_Kernel8Ideal_Reference8Ideal := by
  intro m g m' g' _ hagree
  refine ⟨fun c => gateA (aX m c) (aWg m c), fun c => upA (aX m c) (aWu m c),
    fun c => dfA (aX m c) (aWg m c) (aWu m c) (aWd m c) (aH m c) (aT m c) (aG m c),
    fun c => slopeA (aX m c) (aWg m c) (aWu m c) (aWd m c) (aH m c) (aT m c) (aG m c),
    fun c => lossA (aX m c) (aWg m c) (aWu m c) (aWd m c) (aH m c) (aT m c) (aG m c),
    fun c => gainA (aX m c) (aWg m c) (aWu m c) (aWd m c) (aH m c) (aT m c) (aG m c), ?_, ?_⟩
  · exact (θ_run _ _ _).mono (fun _ h c => ⟨(h c).1.trans (final7 m c), (h c).2.1.trans (final8 m c), (h c).2.2.1.trans (final9 m c),
      (h c).2.2.2.1.trans (final10 m c), (h c).2.2.2.2.1.trans (final11 m c), (h c).2.2.2.2.2.1.trans (final12 m c), (h c).2.2.2.2.2.2⟩)
      (Value.run_blocks (F := Ideal) m g)
  · refine (θ_run _ _ _).mono (fun _ h c => ?_) (Cert.Reference8Ideal.Value.run (F := Ideal) m' g')
    obtain ⟨h0, h1, h2, h3, h4, h5, hk⟩ := h c
    obtain ⟨e0, e1, e2, e3, e4, e5, e6⟩ := hagree c
    rw [Cert.Reference8Ideal.Read.val_main_v59_eq, e0, e1] at h0
    rw [Cert.Reference8Ideal.Read.val_main_v60_eq, e0, e2] at h1
    rw [Cert.Reference8Ideal.Read.val_main_v61_eq, e0, e1, e2, e3, e4, e5, e6] at h2
    rw [Cert.Reference8Ideal.Read.val_main_v39_eq, e0, e1, e2, e3, e4, e5, e6] at h3
    rw [Cert.Reference8Ideal.Read.val_main_v62_eq, e0, e1, e2, e3, e4, e5, e6] at h4
    rw [Cert.Reference8Ideal.Read.val_main_v42_eq, e0, e1, e2, e3, e4, e5, e6] at h5
    exact ⟨h0.trans (ref59 _ _), h1.trans (ref60 _ _), h2.trans (ref61 _ _ _ _ _ _ _),
      h3.trans (ref39A _ _ _ _ _ _ _), h4.trans (ref62 _ _ _ _ _ _ _), h5.trans (ref42 _ _ _ _ _ _ _), hk⟩

end Cert.Kernel8Ideal.FfnFwdLoss

end
-- ==== Proof.GradDown.lean ====
module

public import proofs.«01_k».proof.Defs
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Stores

/-! # The gradient of the down projection's weight

The kernel walks the 8192 rows in eight groups of 1024 and adds each group's part of `actᵀ · df` into one array.
Here the array it leaves is read off entry by entry: the sum over all 8192 rows. -/

@[expose] public section

set_option maxRecDepth 16384

noncomputable section

namespace Cert.Kernel2Ideal.GradDown

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What the kernel computes: entry `(i, j)` is the sum over the rows of `act[row, i] * df[row, j]`. -/
def total (a : (⟨S8192x2816, .bf16⟩ : BufTy).Contents (Elt Ideal)) (d : (⟨S8192x1024, .bf16⟩ : BufTy).Contents (Elt Ideal)) :
    (⟨S2816x1024, .f32⟩ : BufTy).Contents (Elt Ideal) :=
  fun j => ∑ k : Fin 8192, (a (ix2 k (j 0)) : EReal) * d (ix2 k (j 1))

/-- Both inputs are cut into groups of 1024 rows, group `t` at grid point `t`. -/
theorem idx : ∀ t : Fin cfg0.N, win0_0.index t = ![t.val, 0] ∧ win0_1.index t = ![t.val, 0] :=
  (by decide +kernel : ∀ t : Fin grid0.N, _)

/-- The first store fills the accumulator with zero. -/
theorem hzero (j) : k0_pay1 (F := Ideal) j = 0 := by pointwise [k0_pay1]

/-- The second store adds the product of the group's blocks to what was there. -/
theorem hpay (acc : Vec Ideal S2816x1024 .f32) (x1 : Vec Ideal S1024x1024 .bf16) (x0 : Vec Ideal S1024x2816 .bf16) (j) :
    k0_pay2 x1 x0 acc j = acc j + ∑ k : Fin 1024, x0 (ix2 k (j 0)) * x1 (ix2 k (j 1)) := by pointwise [k0_pay2]

/-- The result array after the run. -/
theorem final (c : Dev nD) : (dats m 0 c).arrAt 2 (cfgs 0).N
    = total (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [outsAt0_A m c t h]; frame_out; rw [hpay, hzero])
    (fun t h j => by rw [outsAt0_B m c t h]; frame_out; rw [hpay])
    (le_of_eq N_0) t0_7 rfl j, zero_add]
  unfold total
  refine Fin.sum_mul_add_congr fun t k hl => ?_
  blk_point [iblk, V, idx t]

/-- The reference's result is the same sum. -/
theorem reference_eq (a : (⟨S8192x2816, .bf16⟩ : BufTy).Contents (Elt Ideal)) (d : (⟨S8192x1024, .bf16⟩ : BufTy).Contents (Elt Ideal)) :
    Cert.Reference2Ideal.Read.val_main_v5 (F := Ideal) a d = total a d := by
  funext j
  rw [Cert.Reference2Ideal.Read.val_main_v5_apply, Cert.Reference2Ideal.Read.val_main_v4_apply]
  unfold total
  refine Finset.sum_congr rfl fun k _ => ?_
  rw [mul_comm]
  exact congrArg₂ (fun x y : EReal => x * y) (congrArg a (Cert.Stores.idx2_ext rfl rfl)) (congrArg d (Cert.Stores.idx2_ext rfl rfl))

/-- Kernel and reference end with the same array. -/
theorem algebraic : Cert.algebraic_Kernel2Ideal_Reference2Ideal := by
  intro m g m' g' _ hagree
  refine ⟨fun c => total (m ((c : Thread nD τ).loc main_arg0)) (m ((c : Thread nD τ).loc main_arg1)), ?_, ?_⟩
  · exact (θ_run _ _ _).mono (fun _ h c => ⟨(h c).1.trans (final m c), (h c).2⟩) (Value.run_blocks (F := Ideal) m g)
  · exact (θ_run _ _ _).mono (fun _ h c => ⟨(h c).1.trans (by
      rw [Cert.Reference2Ideal.Read.val_main_v5_eq, reference_eq, (hagree c).1, (hagree c).2]), (h c).2⟩)
      (Cert.Reference2Ideal.Value.run (F := Ideal) m' g')

end Cert.Kernel2Ideal.GradDown

end
-- ==== Proof.GradGate.lean ====
module

public import proofs.«01_k».proof.Defs
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Stores

/-! # The gradient of the gate's weight, and of the up projection's

The kernel walks the 8192 rows in eight groups of 1024 and adds each group's part of `f_inᵀ · dgt` into one array.
Here the array it leaves is read off entry by entry: the sum over all 8192 rows. -/

@[expose] public section

set_option maxRecDepth 16384

noncomputable section

namespace Cert.Kernel3Ideal.GradGate

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- What the kernel computes: entry `(i, j)` is the sum over the rows of `f_in[row, i] * dgt[row, j]`. -/
def total (a : (⟨S8192x1024, .bf16⟩ : BufTy).Contents (Elt Ideal)) (d : (⟨S8192x2816, .bf16⟩ : BufTy).Contents (Elt Ideal)) :
    (⟨S1024x2816, .f32⟩ : BufTy).Contents (Elt Ideal) :=
  fun j => ∑ k : Fin 8192, (a (ix2 k (j 0)) : EReal) * d (ix2 k (j 1))

/-- Both inputs are cut into groups of 1024 rows, group `t` at grid point `t`. -/
theorem idx : ∀ t : Fin cfg0.N, win0_0.index t = ![t.val, 0] ∧ win0_1.index t = ![t.val, 0] :=
  (by decide +kernel : ∀ t : Fin grid0.N, _)

/-- The first store fills the accumulator with zero. -/
theorem hzero (j) : k0_pay1 (F := Ideal) j = 0 := by pointwise [k0_pay1]

/-- The second store adds the product of the group's blocks to what was there. -/
theorem hpay (acc : Vec Ideal S1024x2816 .f32) (x1 : Vec Ideal S1024x2816 .bf16) (x0 : Vec Ideal S1024x1024 .bf16) (j) :
    k0_pay2 x1 x0 acc j = acc j + ∑ k : Fin 1024, x0 (ix2 k (j 0)) * x1 (ix2 k (j 1)) := by pointwise [k0_pay2]

/-- The result array after the run. -/
theorem final (c : Dev nD) : (dats m 0 c).arrAt 2 (cfgs 0).N
    = total (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [outsAt0_A m c t h]; frame_out; rw [hpay, hzero])
    (fun t h j => by rw [outsAt0_B m c t h]; frame_out; rw [hpay])
    (le_of_eq N_0) t0_7 rfl j, zero_add]
  unfold total
  refine Fin.sum_mul_add_congr fun t k hl => ?_
  blk_point [iblk, V, idx t]

/-- The reference's result is the same sum. -/
theorem reference_eq (a : (⟨S8192x1024, .bf16⟩ : BufTy).Contents (Elt Ideal)) (d : (⟨S8192x2816, .bf16⟩ : BufTy).Contents (Elt Ideal)) :
    Cert.Reference3Ideal.Read.val_main_v5 (F := Ideal) a d = total a d := by
  funext j
  rw [Cert.Reference3Ideal.Read.val_main_v5_apply, Cert.Reference3Ideal.Read.val_main_v4_apply]
  unfold total
  refine Finset.sum_congr rfl fun k _ => ?_
  rw [mul_comm]
  exact congrArg₂ (fun x y : EReal => x * y) (congrArg a (Cert.Stores.idx2_ext rfl rfl)) (congrArg d (Cert.Stores.idx2_ext rfl rfl))

/-- Kernel and reference end with the same array. -/
theorem algebraic : Cert.algebraic_Kernel3Ideal_Reference3Ideal := by
  intro m g m' g' _ hagree
  refine ⟨fun c => total (m ((c : Thread nD τ).loc main_arg0)) (m ((c : Thread nD τ).loc main_arg1)), ?_, ?_⟩
  · exact (θ_run _ _ _).mono (fun _ h c => ⟨(h c).1.trans (final m c), (h c).2⟩) (Value.run_blocks (F := Ideal) m g)
  · exact (θ_run _ _ _).mono (fun _ h c => ⟨(h c).1.trans (by
      rw [Cert.Reference3Ideal.Read.val_main_v5_eq, reference_eq, (hagree c).1, (hagree c).2]), (h c).2⟩)
      (Cert.Reference3Ideal.Value.run (F := Ideal) m' g')

end Cert.Kernel3Ideal.GradGate

end
-- ==== Proof.GradIn.lean ====
module

public import proofs.«01_k».proof.Defs
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Stores

/-! # The gradient of the combined input projection's weight

The kernel walks the 8192 rows in eight groups of 1024. For each group it adds four products into four ranges of columns
of one array: with the gradients at the convolution heads' channels, at the queries, at the keys and at the values. -/

@[expose] public section

set_option maxRecDepth 16384

noncomputable section

namespace Cert.Kernel5Ideal.GradIn

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Column `i` of row `k` of the four gradients set side by side. -/
def side {n : ℕ} (u : (⟨2, ![n, 1024]⟩ : Shape).Idx → EReal) (q kk v : (⟨2, ![n, 512]⟩ : Shape).Idx → EReal) (k : Fin n) (i : Fin 2560) : EReal :=
  if h : i.val < 1024 then u (ix2 k ⟨i.val, h⟩)
  else if h : i.val < 1536 then q (ix2 k ⟨i.val - 1024, by omega⟩)
  else if h : i.val < 2048 then kk (ix2 k ⟨i.val - 1536, by omega⟩)
  else v (ix2 k ⟨i.val - 2048, by omega⟩)

/-- What the kernel computes: entry `(i, j)` is the sum over the rows of `a[row, i]` times the gradients' column `j`. -/
def total (a u : (⟨S8192x1024, .bf16⟩ : BufTy).Contents (Elt Ideal)) (q kk v : (⟨S8192x512, .f32⟩ : BufTy).Contents (Elt Ideal)) :
    (⟨S1024x2560, .f32⟩ : BufTy).Contents (Elt Ideal) :=
  fun j => ∑ k : Fin 8192, (a (ix2 k (j 0)) : EReal) * side u q kk v k (j 1)

/-- All five inputs are cut into groups of 1024 rows, group `t` at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The first store fills the accumulator with zero. -/
theorem hzero (j) : k0_pay2 (F := Ideal) j = 0 := by pointwise [k0_pay2]

/-- The convolution heads' store adds their product to what was there. -/
theorem hpay0 (acc : Vec Ideal S1024x1024 .f32) (y : Vec Ideal S1024x1024 .bf16) (a : Vec Ideal S1024x1024 .bf16) (j) :
    k0_pay4 y a acc j = acc j + ∑ k : Fin 1024, a (ix2 k (j 0)) * y (ix2 k (j 1)) := by pointwise [k0_pay4]

/-- The queries' store adds their product to what was there. -/
theorem hpay1 (acc : Vec Ideal S1024x512 .f32) (y : Vec Ideal S1024x512 .f32) (a : Vec Ideal S1024x1024 .bf16) (j) :
    k0_pay5 y a acc j = acc j + ∑ k : Fin 1024, a (ix2 k (j 0)) * y (ix2 k (j 1)) := by pointwise [k0_pay5]

/-- The keys' store adds their product to what was there. -/
theorem hpay2 (acc : Vec Ideal S1024x512 .f32) (y : Vec Ideal S1024x512 .f32) (a : Vec Ideal S1024x1024 .bf16) (j) :
    k0_pay6 y a acc j = acc j + ∑ k : Fin 1024, a (ix2 k (j 0)) * y (ix2 k (j 1)) := by pointwise [k0_pay6]

/-- The values' store adds their product to what was there. -/
theorem hpay3 (acc : Vec Ideal S1024x512 .f32) (y : Vec Ideal S1024x512 .f32) (a : Vec Ideal S1024x1024 .bf16) (j) :
    k0_pay1 (k0_pay3 y) a acc j = acc j + ∑ k : Fin 1024, a (ix2 k (j 0)) * y (ix2 k (j 1)) := by pointwise [k0_pay1, k0_pay3]

/-- What group `t` adds at entry `j`. -/
def term (c : Dev nD) (t : Fin cfg0.N) (j : S1024x2560.Idx) : EReal :=
  ∑ k : Fin 1024, (show S1024x1024.Idx → EReal from iblk m c 0 t) (ix2 k (j 0))
    * side (show S1024x1024.Idx → EReal from iblk m c 1 t) (show S1024x512.Idx → EReal from iblk m c 2 t)
        (show S1024x512.Idx → EReal from iblk m c 3 t) (show S1024x512.Idx → EReal from iblk m c 4 t) k (j 1)

/-- The term in the convolution heads' columns. -/
theorem term_0 (c : Dev nD) (t : Fin cfg0.N) (j : S1024x2560.Idx) (x : S1024x1024.Idx) (h0 : (j 0).val = 0 + (x 0).val)
    (h1 : (j 1).val = 0 + (x 1).val) : term m c t j = ∑ k : Fin 1024, (show S1024x1024.Idx → EReal from iblk m c 0 t) (ix2 k (x 0))
      * (show S1024x1024.Idx → EReal from iblk m c 1 t) (ix2 k (x 1)) := by
  have hx := (x 1).isLt
  unfold term side
  simp only [dif_pos (show (j 1).val < 1024 by simp at hx; omega)]
  blk_point []

/-- The term in the queries' columns. -/
theorem term_1 (c : Dev nD) (t : Fin cfg0.N) (j : S1024x2560.Idx) (x : S1024x512.Idx) (h0 : (j 0).val = 0 + (x 0).val)
    (h1 : (j 1).val = 1024 + (x 1).val) : term m c t j = ∑ k : Fin 1024, (show S1024x1024.Idx → EReal from iblk m c 0 t) (ix2 k (x 0))
      * (show S1024x512.Idx → EReal from iblk m c 2 t) (ix2 k (x 1)) := by
  have hx := (x 1).isLt
  unfold term side
  simp only [dif_neg (show ¬(j 1).val < 1024 by omega), dif_pos (show (j 1).val < 1536 by simp at hx; omega)]
  blk_point []

/-- The term in the keys' columns. -/
theorem term_2 (c : Dev nD) (t : Fin cfg0.N) (j : S1024x2560.Idx) (x : S1024x512.Idx) (h0 : (j 0).val = 0 + (x 0).val)
    (h1 : (j 1).val = 1536 + (x 1).val) : term m c t j = ∑ k : Fin 1024, (show S1024x1024.Idx → EReal from iblk m c 0 t) (ix2 k (x 0))
      * (show S1024x512.Idx → EReal from iblk m c 3 t) (ix2 k (x 1)) := by
  have hx := (x 1).isLt
  unfold term side
  simp only [dif_neg (show ¬(j 1).val < 1024 by omega), dif_neg (show ¬(j 1).val < 1536 by omega), dif_pos (show (j 1).val < 2048 by simp at hx; omega)]
  blk_point []

/-- The term in the values' columns. -/
theorem term_3 (c : Dev nD) (t : Fin cfg0.N) (j : S1024x2560.Idx) (x : S1024x512.Idx) (h0 : (j 0).val = 0 + (x 0).val)
    (h1 : (j 1).val = 2048 + (x 1).val) : term m c t j = ∑ k : Fin 1024, (show S1024x1024.Idx → EReal from iblk m c 0 t) (ix2 k (x 0))
      * (show S1024x512.Idx → EReal from iblk m c 4 t) (ix2 k (x 1)) := by
  have hx := (x 1).isLt
  unfold term side
  simp only [dif_neg (show ¬(j 1).val < 1024 by omega), dif_neg (show ¬(j 1).val < 1536 by omega), dif_neg (show ¬(j 1).val < 2048 by omega)]
  blk_point []

/-- The array after a point that is not the first: what the point before left, and the group's term. -/
theorem stepB (c : Dev nD) (t : Fin cfg0.N) (h : ¬t.val % 8 = 0) (j) :
    outsAt0 m c t.val t.isLt j = (outsAt0 m c (t.val - 1) (Nat.lt_of_le_of_lt (Nat.sub_le _ _) t.isLt) j : EReal) + term m c t j := by
  rw [outsAt0_B m c t h]; frame_out
  canon_tiles x h using View.cover_of_tiledBy _ ![1024, 512] (by sl_kernel_rfl) _
  · rw [hpay3, term_3 m c t j x (by omega) (by omega)]
    exact congrArg (· + _) (congrArg _ (Cert.Stores.emb_unit2 x j (by omega) (by omega)))
  · rw [hpay2, term_2 m c t j x (by omega) (by omega)]
    exact congrArg (· + _) (congrArg _ (Cert.Stores.emb_unit2 x j (by omega) (by omega)))
  · rw [hpay1, term_1 m c t j x (by omega) (by omega)]
    exact congrArg (· + _) (congrArg _ (Cert.Stores.emb_unit2 x j (by omega) (by omega)))
  · rw [hpay0, term_0 m c t j x (by omega) (by omega)]
    exact congrArg (· + _) (congrArg _ (Cert.Stores.emb_unit2 x j (by omega) (by omega)))

/-- The array after the first point: the group's term. -/
theorem stepA (c : Dev nD) (t : Fin cfg0.N) (h : t.val % 8 = 0) (j) : outsAt0 m c t.val t.isLt j = (0 : EReal) + term m c t j := by
  rw [outsAt0_A m c t h]; frame_out
  classical
  rw [Cert.Stores.canon_add _ _ _ (fun y => (((0 + if y ∈ (Rect.unit ![0, 0] ![1024, 1024] inb_S1024x2560_S1024x1024_0_0).set then term m c t y else 0) + if y ∈ (Rect.unit ![0, 1024] ![1024, 512] inb_S1024x2560_S1024x512_0_1024).set then term m c t y else 0) + if y ∈ (Rect.unit ![0, 1536] ![1024, 512] inb_S1024x2560_S1024x512_0_1536).set then term m c t y else 0)) (term m c t)
    (fun y => Cert.Stores.canon_add _ _ _ (fun y => ((0 + if y ∈ (Rect.unit ![0, 0] ![1024, 1024] inb_S1024x2560_S1024x1024_0_0).set then term m c t y else 0) + if y ∈ (Rect.unit ![0, 1024] ![1024, 512] inb_S1024x2560_S1024x512_0_1024).set then term m c t y else 0)) (term m c t)
      (fun y => Cert.Stores.canon_add _ _ _ (fun y => (0 + if y ∈ (Rect.unit ![0, 0] ![1024, 1024] inb_S1024x2560_S1024x1024_0_0).set then term m c t y else 0)) (term m c t)
        (fun y => Cert.Stores.canon_add _ _ _ (fun _ => 0) (term m c t) (fun y => ?_) (fun x => ?_) y) (fun x => ?_) y) (fun x => ?_) y) (fun x => ?_) j]
  · have hj0 : (j 0).val < 1024 := (j 0).isLt
    have hj1 : (j 1).val < 2560 := (j 1).isLt
    exact Cert.Stores.four_parts _ (by
      rw [Cert.Stores.mem_unit2, Cert.Stores.mem_unit2, Cert.Stores.mem_unit2, Cert.Stores.mem_unit2]; omega)
  · rw [View.canon_cons_unit_lit _ _ _ (by decide)]
    exact hzero y
  · rw [hpay0, View.readCov_eq_canon', term_0 m c t _ x (Cert.Stores.emb_unit2_0 x) (Cert.Stores.emb_unit2_1 x)]
    rfl
  · rw [hpay1, View.readCov_eq_canon', term_1 m c t _ x (Cert.Stores.emb_unit2_0 x) (Cert.Stores.emb_unit2_1 x)]
    rfl
  · rw [hpay2, View.readCov_eq_canon', term_2 m c t _ x (Cert.Stores.emb_unit2_0 x) (Cert.Stores.emb_unit2_1 x)]
    rfl
  · rw [hpay3, View.readCov_eq_canon', term_3 m c t _ x (Cert.Stores.emb_unit2_0 x) (Cert.Stores.emb_unit2_1 x)]
    rfl

/-- The result array after the run. -/
theorem final (c : Dev nD) : (dats m 0 c).arrAt 5 (cfgs 0).N
    = total (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_7 (by decide +kernel) _ fun j => ?_
  blk_simp
  rw [after0_5, Pipeline.eq_sum_fin_of_reset_step_apply_last (fun n h => outsAt0 m c n h) 8 (fun _ => 0) (term m c)
    (fun t h j => stepA m c t h j) (fun t h j => stepB m c t h j) (le_of_eq N_0) t0_7 rfl j, zero_add]
  unfold total term
  refine Fin.sum_mul_add_congr fun t k hl => ?_
  unfold side
  by_cases h1 : (j 1).val < 1024
  · simp only [dif_pos h1]
    blk_point [iblk, V, idx t]
  by_cases h2 : (j 1).val < 1536
  · simp only [dif_neg h1, dif_pos h2]
    blk_point [iblk, V, idx t]
  by_cases h3 : (j 1).val < 2048
  · simp only [dif_neg h1, dif_neg h2, dif_pos h3]
    blk_point [iblk, V, idx t]
  · simp only [dif_neg h1, dif_neg h2, dif_neg h3]
    blk_point [iblk, V, idx t]

/-- The reference's four gradients, each padded with zeros to the full width and added up, are the four set side by side. -/
theorem reference_side (u : (⟨S8192x1024, .bf16⟩ : BufTy).Contents (Elt Ideal)) (q kk v : (⟨S8192x512, .f32⟩ : BufTy).Contents (Elt Ideal))
    (k : Fin 8192) (i : Fin 2560) :
    Cert.Reference5Ideal.Read.val_main_v14 (F := Ideal) u q kk v (ix2 k i) = side u q kk v k i := by
  rw [Cert.Reference5Ideal.Read.val_main_v14_apply, Cert.Reference5Ideal.Read.val_main_v12_apply, Cert.Reference5Ideal.Read.val_main_v10_apply]
  unfold side
  pointwise [Cert.Reference5Ideal.Read.val_main_v8, Cert.Reference5Ideal.Read.val_main_v9, Cert.Reference5Ideal.Read.val_main_v11,
    Cert.Reference5Ideal.Read.val_main_v13, Cert.Reference5Ideal.Read.val_main_v1, Cert.Reference5Ideal.Read.val_main_cst_0,
    Cert.Reference5Ideal.Read.val_main_cst_1, Cert.Reference5Ideal.Read.val_main_cst_2, Cert.Reference5Ideal.Read.val_main_cst_3]
  have hi := i.isLt
  by_cases h1 : i.val < 1024
  · rw [dif_neg (by omega), dif_neg (by omega), dif_neg (by omega), dif_pos h1, dif_pos h1, add_zero, add_zero, zero_add]
  by_cases h2 : i.val < 1536
  · rw [dif_neg (by omega), dif_neg (by omega), dif_pos (by omega), dif_neg h1, dif_neg h1, dif_pos h2, add_zero, add_zero, zero_add]
  by_cases h3 : i.val < 2048
  · rw [dif_neg (by omega), dif_pos (by omega), dif_neg (by omega), dif_neg h1, dif_neg h1, dif_neg h2, dif_pos h3, add_zero, add_zero, zero_add]
  · rw [dif_pos (by omega), dif_neg (by omega), dif_neg (by omega), dif_neg h1, dif_neg h1, dif_neg h2, dif_neg h3, add_zero, add_zero, add_zero]

/-- The reference's result is the same sum. -/
theorem reference_eq (a u : (⟨S8192x1024, .bf16⟩ : BufTy).Contents (Elt Ideal)) (q kk v : (⟨S8192x512, .f32⟩ : BufTy).Contents (Elt Ideal)) :
    Cert.Reference5Ideal.Read.val_main_v16 (F := Ideal) a u q kk v = total a u q kk v := by
  funext j
  rw [Cert.Reference5Ideal.Read.val_main_v16_apply, Cert.Reference5Ideal.Read.val_main_v15_apply]
  unfold total
  refine Finset.sum_congr rfl fun k _ => ?_
  have e : Cert.Reference5Ideal.Read.lidx_main_v15 (Cert.Reference5Ideal.Read.idx_main_v16 j) k = ix2 k (j 1) := Cert.Stores.idx2_ext rfl rfl
  rw [mul_comm, e]
  exact congrArg₂ (fun x y : EReal => x * y) (congrArg a (Cert.Stores.idx2_ext rfl rfl)) (reference_side u q kk v k (j 1))

/-- Kernel and reference end with the same array. -/
theorem algebraic : Cert.algebraic_Kernel5Ideal_Reference5Ideal := by
  intro m g m' g' _ hagree
  refine ⟨fun c => total (m ((c : Thread nD τ).loc main_arg0)) (m ((c : Thread nD τ).loc main_arg1)) (m ((c : Thread nD τ).loc main_arg2))
    (m ((c : Thread nD τ).loc main_arg3)) (m ((c : Thread nD τ).loc main_arg4)), ?_, ?_⟩
  · exact (θ_run _ _ _).mono (fun _ h c => ⟨(h c).1.trans (final m c), (h c).2⟩) (Value.run_blocks (F := Ideal) m g)
  · exact (θ_run _ _ _).mono (fun _ h c => ⟨(h c).1.trans (by
      rw [Cert.Reference5Ideal.Read.val_main_v16_eq, reference_eq, (hagree c).1, (hagree c).2.1, (hagree c).2.2.1, (hagree c).2.2.2.1,
        (hagree c).2.2.2.2]), (h c).2⟩)
      (Cert.Reference5Ideal.Value.run (F := Ideal) m' g')

end Cert.Kernel5Ideal.GradIn

end
-- ==== Proof.GradOut.lean ====
module

public import proofs.«01_k».proof.Defs
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Stores

/-! # The gradient of the output projection's weight

The kernel walks the 8192 rows in eight groups of 1024. For each group it adds the product with the convolution heads'
columns into the upper half of one array, and the product with the attention heads' columns into the lower half. -/

@[expose] public section

set_option maxRecDepth 16384

noncomputable section

namespace Cert.Kernel7Ideal.GradOut

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Column `i` of row `k` of the two head groups set side by side. -/
def mixed {n : ℕ} (a b : (⟨2, ![n, 512]⟩ : Shape).Idx → EReal) (k : Fin n) (i : Fin 1024) : EReal :=
  if h : i.val < 512 then a (ix2 k ⟨i.val, h⟩) else b (ix2 k ⟨i.val - 512, by omega⟩)

/-- What the kernel computes: entry `(i, j)` is the sum over the rows of the mixed heads' column `i` times `dy`'s column `j`. -/
def total (a b : (⟨S8192x512, .bf16⟩ : BufTy).Contents (Elt Ideal)) (d : (⟨S8192x1024, .bf16⟩ : BufTy).Contents (Elt Ideal)) :
    (⟨S1024x1024, .f32⟩ : BufTy).Contents (Elt Ideal) :=
  fun j => ∑ k : Fin 8192, mixed a b k (j 0) * d (ix2 k (j 1))

/-- All three inputs are cut into groups of 1024 rows, group `t` at grid point `t`. -/
theorem idx : ∀ t : Fin cfg0.N, win0_0.index t = ![t.val, 0] ∧ win0_1.index t = ![t.val, 0] ∧ win0_2.index t = ![t.val, 0] :=
  (by decide +kernel : ∀ t : Fin grid0.N, _)

/-- The first store fills the accumulator with zero. -/
theorem hzero (j) : k0_pay1 (F := Ideal) j = 0 := by pointwise [k0_pay1]

/-- The convolution heads' store adds their product to what was there. -/
theorem hpay2 (acc : Vec Ideal S512x1024 .f32) (y : Vec Ideal S1024x1024 .bf16) (x : Vec Ideal S1024x512 .bf16) (j) :
    k0_pay2 y x acc j = acc j + ∑ k : Fin 1024, x (ix2 k (j 0)) * y (ix2 k (j 1)) := by pointwise [k0_pay2]

/-- The attention heads' store does the same. -/
theorem hpay3 (acc : Vec Ideal S512x1024 .f32) (y : Vec Ideal S1024x1024 .bf16) (x : Vec Ideal S1024x512 .bf16) (j) :
    k0_pay3 y x acc j = acc j + ∑ k : Fin 1024, x (ix2 k (j 0)) * y (ix2 k (j 1)) := by pointwise [k0_pay3]

/-- What group `t` adds at entry `j`. -/
def term (c : Dev nD) (t : Fin cfg0.N) (j : S1024x1024.Idx) : EReal :=
  ∑ k : Fin 1024, mixed (show S1024x512.Idx → EReal from iblk m c 0 t) (show S1024x512.Idx → EReal from iblk m c 1 t) k (j 0)
    * (show S1024x1024.Idx → EReal from iblk m c 2 t) (ix2 k (j 1))

/-- The term in the upper half: the convolution heads' product. -/
theorem term_lo (c : Dev nD) (t : Fin cfg0.N) (j : S1024x1024.Idx) (x : S512x1024.Idx) (h0 : (j 0).val = 0 + (x 0).val)
    (h1 : (j 1).val = 0 + (x 1).val) : term m c t j = ∑ k : Fin 1024, (show S1024x512.Idx → EReal from iblk m c 0 t) (ix2 k (x 0))
      * (show S1024x1024.Idx → EReal from iblk m c 2 t) (ix2 k (x 1)) := by
  have hx := (x 0).isLt
  unfold term mixed
  simp only [dif_pos (show (j 0).val < 512 by simp at hx; omega)]
  blk_point []

/-- The term in the lower half: the attention heads' product. -/
theorem term_hi (c : Dev nD) (t : Fin cfg0.N) (j : S1024x1024.Idx) (x : S512x1024.Idx) (h0 : (j 0).val = 512 + (x 0).val)
    (h1 : (j 1).val = 0 + (x 1).val) : term m c t j = ∑ k : Fin 1024, (show S1024x512.Idx → EReal from iblk m c 1 t) (ix2 k (x 0))
      * (show S1024x1024.Idx → EReal from iblk m c 2 t) (ix2 k (x 1)) := by
  unfold term mixed
  simp only [dif_neg (show ¬(j 0).val < 512 by omega)]
  blk_point []

/-- The array after a point that is not the first: what the point before left, and the group's term. -/
theorem stepB (c : Dev nD) (t : Fin cfg0.N) (h : ¬t.val % 8 = 0) (j) :
    outsAt0 m c t.val t.isLt j = (outsAt0 m c (t.val - 1) (Nat.lt_of_le_of_lt (Nat.sub_le _ _) t.isLt) j : EReal) + term m c t j := by
  rw [outsAt0_B m c t h]; frame_out
  canon_tiles x h
  · rw [hpay3, term_hi m c t j x (by omega) (by omega)]
    exact congrArg (· + _) (congrArg _ (Cert.Stores.emb_unit2 x j (by omega) (by omega)))
  · rw [hpay2, term_lo m c t j x (by omega) (by omega)]
    exact congrArg (· + _) (congrArg _ (Cert.Stores.emb_unit2 x j (by omega) (by omega)))

/-- The array after the first point: the group's term. -/
theorem stepA (c : Dev nD) (t : Fin cfg0.N) (h : t.val % 8 = 0) (j) : outsAt0 m c t.val t.isLt j = (0 : EReal) + term m c t j := by
  rw [outsAt0_A m c t h]; frame_out
  classical
  rw [Cert.Stores.canon_add _ _ _ (fun y => 0 + if y ∈ (Rect.unit ![0, 0] ![512, 1024] inb_S1024x1024_S512x1024_0_0).set then term m c t y else 0) (term m c t)
    (fun y => Cert.Stores.canon_add _ _ _ (fun _ => 0) (term m c t) (fun y => ?_) (fun x => ?_) y) (fun x => ?_) j]
  · have hj0 : (j 0).val < 1024 := (j 0).isLt
    have hj1 : (j 1).val < 1024 := (j 1).isLt
    exact Cert.Stores.two_parts _ (by rw [Cert.Stores.mem_unit2, Cert.Stores.mem_unit2]; omega)
  · rw [View.canon_cons_unit_lit _ _ _ (by decide)]
    exact hzero y
  · rw [hpay2, View.readCov_eq_canon', term_lo m c t _ x (Cert.Stores.emb_unit2_0 x) (Cert.Stores.emb_unit2_1 x)]
    rfl
  · rw [hpay3, View.readCov_eq_canon', term_hi m c t _ x (Cert.Stores.emb_unit2_0 x) (Cert.Stores.emb_unit2_1 x)]
    rfl

/-- The result array after the run. -/
theorem final (c : Dev nD) : (dats m 0 c).arrAt 3 (cfgs 0).N
    = total (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => outsAt0 m c n h) 8 (fun _ => 0) (term m c)
    (fun t h j => stepA m c t h j) (fun t h j => stepB m c t h j) (le_of_eq N_0) t0_7 rfl j, zero_add]
  unfold total term
  refine Fin.sum_mul_add_congr fun t k hl => ?_
  unfold mixed
  by_cases hj : (j 0).val < 512
  · simp only [dif_pos hj]
    blk_point [iblk, V, idx t]
  · simp only [dif_neg hj]
    blk_point [iblk, V, idx t]

/-- The reference's two head groups set side by side. -/
theorem reference_mixed (a b : (⟨S8192x512, .bf16⟩ : BufTy).Contents (Elt Ideal)) (k : Fin 8192) (i : Fin 1024) :
    Cert.Reference7Ideal.Read.val_main_v3 (F := Ideal) a b (ix2 k i) = mixed a b k i := by
  unfold mixed
  pointwise [Cert.Reference7Ideal.Read.val_main_v3, Cert.Reference7Ideal.Read.val_main_v0, Cert.Reference7Ideal.Read.val_main_v1]

/-- The reference's result is the same sum. -/
theorem reference_eq (a b : (⟨S8192x512, .bf16⟩ : BufTy).Contents (Elt Ideal)) (d : (⟨S8192x1024, .bf16⟩ : BufTy).Contents (Elt Ideal)) :
    Cert.Reference7Ideal.Read.val_main_v7 (F := Ideal) a b d = total a b d := by
  funext j
  rw [Cert.Reference7Ideal.Read.val_main_v7_apply, Cert.Reference7Ideal.Read.val_main_v6_apply]
  unfold total
  refine Finset.sum_congr rfl fun k _ => ?_
  have e : Cert.Reference7Ideal.Read.ridx_main_v6 (Cert.Reference7Ideal.Read.idx_main_v7 j) k = ix2 k (j 0) := Cert.Stores.idx2_ext rfl rfl
  rw [mul_comm, e]
  exact congrArg₂ (fun x y : EReal => x * y) (reference_mixed a b k (j 0)) (congrArg d (Cert.Stores.idx2_ext rfl rfl))

/-- Kernel and reference end with the same array. -/
theorem algebraic : Cert.algebraic_Kernel7Ideal_Reference7Ideal := by
  intro m g m' g' _ hagree
  refine ⟨fun c => total (m ((c : Thread nD τ).loc main_arg0)) (m ((c : Thread nD τ).loc main_arg1)) (m ((c : Thread nD τ).loc main_arg2)), ?_, ?_⟩
  · exact (θ_run _ _ _).mono (fun _ h c => ⟨(h c).1.trans (final m c), (h c).2⟩) (Value.run_blocks (F := Ideal) m g)
  · exact (θ_run _ _ _).mono (fun _ h c => ⟨(h c).1.trans (by
      rw [Cert.Reference7Ideal.Read.val_main_v7_eq, reference_eq, (hagree c).1, (hagree c).2.1, (hagree c).2.2]), (h c).2⟩)
      (Cert.Reference7Ideal.Value.run (F := Ideal) m' g')

end Cert.Kernel7Ideal.GradOut

end
-- ==== Proof.InProj.lean ====
module

public import proofs.«01_k».proof.Defs
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Stores
public import proofs.«01_k».proof.Proof.Norms

/-! # The first norm and the combined input projection

The kernel takes 512 rows at a time: the norm, then its products with three parts of the weight's columns, the queries'
scaled by an eighth. -/

@[expose] public section

set_option maxRecDepth 16384

noncomputable section

namespace Cert.Kernel9Ideal.InProj

open Cert.Kernel9Ideal Cert.Kernel9Ideal.Gen Idealize.ShloMosaic Idealize.ShloMosaic.TcCoe Idealize.SL.Sem
open Idealize.ShloMosaic.Pipeline (Dat)
open Cert.Norms (factor mean)

abbrev Rows := (⟨S8192x1024, .f32⟩ : BufTy).Contents (Elt Ideal)
abbrev Gain := (⟨S1x1024, .f32⟩ : BufTy).Contents (Elt Ideal)
abbrev Weight := (⟨S1024x2560, .bf16⟩ : BufTy).Contents (Elt Ideal)
abbrev Normed := (⟨S8192x1024, .bf16⟩ : BufTy).Contents (Elt Ideal)
abbrev Heads := (⟨S8192x1536, .bf16⟩ : BufTy).Contents (Elt Ideal)

/-- The norm of a row `x` with gain `g`. -/
def norm (x g : Fin 1024 → EReal) (j : Fin 1024) : EReal := x j * factor x * g j

/-- A row of the projection. -/
def proj (x g : Fin 1024 → EReal) (w : Weight) (j : Fin 2560) : EReal := ∑ k : Fin 1024, norm x g k * w (ix2 k j)

/-- A row of queries, keys and values: the queries are scaled. -/
def heads (x g : Fin 1024 → EReal) (w : Weight) (j : Fin 1536) : EReal :=
  if j.val < 512 then proj x g w ⟨1024 + j.val, by omega⟩ * Ideal.ofBits .f32 0x3E000000#32 else proj x g w ⟨1024 + j.val, by omega⟩

section Payloads

variable (x : Vec Ideal S512x1024 .f32) (g : Vec Ideal S1x1024 .f32) (w : Vec Ideal S1024x2560 .bf16)

theorem pay1 (a : Fin 512) (b : Fin 1024) : k0_pay1 x g (ix2 a b) = norm (fun k => x (ix2 a k)) (fun k => g (ix2 0 k)) b := by
  pointwise [k0_pay1, norm, factor, mean]

theorem pay2 (a : Fin 512) (b : Fin 1024) :
    k0_pay2 x g (View.ld w (Rect.unit ![0, 0] ![1024, 1024] inb_S1024x2560_S1024x1024_0_0)) (ix2 a b)
      = proj (fun k => x (ix2 a k)) (fun k => g (ix2 0 k)) w ⟨b.val, by omega⟩ := by
  unfold proj
  simp only [← pay1]
  pointwise [k0_pay2]

theorem pay3 (a : Fin 512) (b : Fin 512) :
    k0_pay3 x g (View.ld w (Rect.unit ![0, 1024] ![1024, 512] inb_S1024x2560_S1024x512_0_1024)) (ix2 a b)
      = proj (fun k => x (ix2 a k)) (fun k => g (ix2 0 k)) w ⟨1024 + b.val, by omega⟩ * Ideal.ofBits .f32 0x3E000000#32 := by
  unfold proj
  simp only [← pay1]
  pointwise [k0_pay3]

theorem pay4 (a : Fin 512) (b : Fin 1024) :
    k0_pay4 x g (View.ld w (Rect.unit ![0, 1536] ![1024, 1024] inb_S1024x2560_S1024x1024_0_1536)) (ix2 a b)
      = proj (fun k => x (ix2 a k)) (fun k => g (ix2 0 k)) w ⟨1536 + b.val, by omega⟩ := by
  unfold proj
  simp only [← pay1]
  pointwise [k0_pay4]

end Payloads

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The arguments on device `c`. -/
abbrev aX (c : Dev nD) : Rows := m ((c : Thread nD τ).loc main_arg0)
abbrev aG (c : Dev nD) : Gain := m ((c : Thread nD τ).loc main_arg1)
abbrev aW (c : Dev nD) : Weight := m ((c : Thread nD τ).loc main_arg2)

section Results
variable (X : Rows) (G : Gain) (W : Weight)

/-- The three results. -/
def normA : Normed := fun j => norm (fun k => X (ix2 (j 0) k)) (fun k => G (ix2 0 k)) (j 1)
def convA : Rows := fun j => proj (fun k => X (ix2 (j 0) k)) (fun k => G (ix2 0 k)) W ⟨(j 1).val, lt_trans (j 1).isLt (by decide)⟩
def headsA : Heads := fun j => heads (fun k => X (ix2 (j 0) k)) (fun k => G (ix2 0 k)) W (j 1)

end Results

/-- The row of the array at row `r` of group `t`. -/
def row (t : Fin cfg0.N) (r : Fin 512) : Fin 8192 := ⟨t.val * 512 + r.val, by have h : t.val < 16 := t.isLt; omega⟩

section Blocks
variable (c : Dev nD) (t : Fin cfg0.N)

theorem in0 (r : Fin 512) (R : Fin 8192) (hR : R.val = t.val * 512 + r.val) (k : Fin 1024) :
    (iblk m c 0 t : Vec Ideal S512x1024 .f32) (ix2 r k) = aX m c (ix2 R k) := by blk_point [iblk, V, idx t]
theorem in1 (j : S1x1024.Idx) : (iblk m c 1 t : Vec Ideal S1x1024 .f32) j = aG m c j := by blk_point [iblk, V, idx t]
theorem in2 (j : S1024x2560.Idx) : (iblk m c 2 t : Vec Ideal S1024x2560 .bf16) j = aW m c j := by blk_point [iblk, V, idx t]

theorem norm_eq (a : Fin 512) : norm (fun k => (iblk m c 0 t : Vec Ideal S512x1024 .f32) (ix2 a k)) (fun k => (iblk m c 1 t : Vec Ideal S1x1024 .f32) (ix2 0 k))
    = norm (fun k => aX m c (ix2 (row t a) k)) (fun k => aG m c (ix2 0 k)) :=
  congrArg₂ norm (funext fun k => in0 m c t a (row t a) rfl k) (funext fun k => in1 m c t (ix2 0 k))

theorem proj_eq (a : Fin 512) (b : Fin 2560) :
    proj (fun k => (iblk m c 0 t : Vec Ideal S512x1024 .f32) (ix2 a k)) (fun k => (iblk m c 1 t : Vec Ideal S1x1024 .f32) (ix2 0 k)) (iblk m c 2 t) b
    = proj (fun k => aX m c (ix2 (row t a) k)) (fun k => aG m c (ix2 0 k)) (aW m c) b := by
  unfold proj
  rw [norm_eq]
  exact Finset.sum_congr rfl fun k _ => congrArg (fun y : EReal => _ * y) (in2 m c t _)

theorem first (j) : (outsAt0 m c t).1 j = normA (aX m c) (aG m c) (ix2 (row t (j 0)) (j 1)) := by
  unfold outsAt0
  frame_out
  obtain ⟨a, b, rfl⟩ : ∃ a b, j = ix2 a b := ⟨j 0, j 1, Cert.Stores.idx2_ext rfl rfl⟩
  exact (pay1 (iblk m c 0 t) (iblk m c 1 t) a b).trans (congrFun (norm_eq m c t a) b)

theorem second (j) : (outsAt0 m c t).2.1 j = convA (aX m c) (aG m c) (aW m c) (ix2 (row t (j 0)) (j 1)) := by
  unfold outsAt0
  frame_out
  obtain ⟨a, b, rfl⟩ : ∃ a b, j = ix2 a b := ⟨j 0, j 1, Cert.Stores.idx2_ext rfl rfl⟩
  exact (pay2 (iblk m c 0 t) (iblk m c 1 t) (iblk m c 2 t) a b).trans (proj_eq m c t a _)

theorem headsLow (x g : Fin 1024 → EReal) (w : Weight) (j : Fin 1536) (s : Fin 512) (h : j.val = s.val) :
    heads x g w j = proj x g w ⟨1024 + s.val, by omega⟩ * Ideal.ofBits .f32 0x3E000000#32 := by
  unfold heads
  rw [if_pos (by omega)]
  simp only [h]

theorem headsHigh (x g : Fin 1024 → EReal) (w : Weight) (j : Fin 1536) (s : Fin 1024) (h : j.val = 512 + s.val) :
    heads x g w j = proj x g w ⟨1536 + s.val, by omega⟩ := by
  unfold heads
  rw [if_neg (by omega)]
  congr 1
  apply Fin.ext
  show 1024 + j.val = 1536 + s.val
  omega

theorem third (j) : (outsAt0 m c t).2.2 j = headsA (aX m c) (aG m c) (aW m c) (ix2 (row t (j 0)) (j 1)) := by
  unfold outsAt0
  frame_out
  obtain ⟨a, b, rfl⟩ : ∃ a b, j = ix2 a b := ⟨j 0, j 1, Cert.Stores.idx2_ext rfl rfl⟩
  show _ = heads (fun k => aX m c (ix2 (row t a) k)) (fun k => aG m c (ix2 0 k)) (aW m c) b
  canon_tiles x h using View.cover_of_tiledBy _ ![512, 512] (by sl_kernel_rfl) _
  · obtain ⟨p, q, rfl⟩ : ∃ p q, x = ix2 p q := ⟨x 0, x 1, Cert.Stores.idx2_ext rfl rfl⟩
    obtain rfl : a = p := Fin.ext h0
    rw [headsHigh _ _ _ b q h1, ← proj_eq m c t a]
    exact pay4 (iblk m c 0 t) (iblk m c 1 t) (iblk m c 2 t) a q
  · obtain ⟨p, q, rfl⟩ : ∃ p q, x = ix2 p q := ⟨x 0, x 1, Cert.Stores.idx2_ext rfl rfl⟩
    obtain rfl : a = p := Fin.ext h0
    rw [headsLow _ _ _ b q h1, ← proj_eq m c t a]
    exact pay3 (iblk m c 0 t) (iblk m c 1 t) (iblk m c 2 t) a q

theorem out3 (y : S512x1024.Idx) (R : Fin 8192) (hR : R.val = t.val * 512 + (y 0).val) :
    ((View.whole main_v0_0).slice (win0_3.rect t)).emb y = ix2 R (y 1) := by
  blk_ext [idx t]
theorem out4 (y : S512x1024.Idx) (R : Fin 8192) (hR : R.val = t.val * 512 + (y 0).val) :
    ((View.whole main_v0_1).slice (win0_4.rect t)).emb y = ix2 R (y 1) := by
  blk_ext [idx t]
theorem out5 (y : S512x1536.Idx) (R : Fin 8192) (hR : R.val = t.val * 512 + (y 0).val) :
    ((View.whole main_v0_2).slice (win0_5.rect t)).emb y = ix2 R (y 1) := by
  blk_ext [idx t]

end Blocks

theorem final3 (c : Dev nD) : (dats m 0 c).arrAt 3 (cfgs 0).N = normA (aX m c) (aG m c) := by
  refine (dats m 0 c).arrAt_eq_of_covers 3 _ (by decide +kernel) fun t _ y => ?_
  blk_simp
  rw [after0_3, first, out3 t y (row t (y 0)) rfl]
  rfl

theorem final4 (c : Dev nD) : (dats m 0 c).arrAt 4 (cfgs 0).N = convA (aX m c) (aG m c) (aW m c) := by
  refine (dats m 0 c).arrAt_eq_of_covers 4 _ (by decide +kernel) fun t _ y => ?_
  blk_simp
  rw [after0_4, second, out4 t y (row t (y 0)) rfl]
  rfl

theorem final5 (c : Dev nD) : (dats m 0 c).arrAt 5 (cfgs 0).N = headsA (aX m c) (aG m c) (aW m c) := by
  refine (dats m 0 c).arrAt_eq_of_covers 5 _ (by decide +kernel) fun t _ y => ?_
  blk_simp
  rw [after0_5, third, out5 t y (row t (y 0)) rfl]
  rfl

section Reference

open Cert.Reference9Ideal.Read

variable (X : Rows) (G : Gain) (W : Weight)

theorem ref11 (i : Fin 8192) (j : Fin 1024) : val_main_v11 (F := Ideal) X G (ix2 i j) = norm (fun k => X (ix2 i k)) (fun k => G (ix2 0 k)) j := by
  pointwise [val_main_v11, val_main_v10, val_main_v9, val_main_v8, val_main_v7, val_main_v6, val_main_v5, val_main_v4, val_main_v3,
    val_main_v2, val_main_v1, val_main_v0, val_main_cst, val_main_cst_0, val_main_cst_1, norm, factor, mean]

theorem ref13 (i : Fin 8192) (j : Fin 2560) : val_main_v13 (F := Ideal) X G W (ix2 i j) = proj (fun k => X (ix2 i k)) (fun k => G (ix2 0 k)) W j := by
  rw [val_main_v13_apply]
  unfold proj
  refine Finset.sum_congr rfl fun s _ => ?_
  rw [show lidx_main_v13 (ix2 i j) s = ix2 i s from Cert.Stores.idx2_ext rfl rfl, ref11]
  exact congrArg (fun y : EReal => norm (fun k => X (ix2 i k)) (fun k => G (ix2 0 k)) s * y) (congrArg W (Cert.Stores.idx2_ext rfl rfl))

theorem ref18 : val_main_v18 (F := Ideal) X G = normA X G := by
  funext j
  obtain ⟨a, b, rfl⟩ : ∃ a b, j = ix2 a b := ⟨j 0, j 1, Cert.Stores.idx2_ext rfl rfl⟩
  exact ref11 X G a b

theorem ref19 : val_main_v19 (F := Ideal) X G W = convA X G W := by
  funext j
  obtain ⟨a, b, rfl⟩ : ∃ a b, j = ix2 a b := ⟨j 0, j 1, Cert.Stores.idx2_ext rfl rfl⟩
  refine Eq.trans ?_ (ref13 X G W a ⟨b.val, by omega⟩)
  pointwise [val_main_v19]

theorem ref21 : val_main_v21 (F := Ideal) X G W = headsA X G W := by
  funext j
  obtain ⟨a, b, rfl⟩ : ∃ a b, j = ix2 a b := ⟨j 0, j 1, Cert.Stores.idx2_ext rfl rfl⟩
  show _ = heads (fun k => X (ix2 a k)) (fun k => G (ix2 0 k)) W b
  unfold heads
  simp only [← ref13]
  pointwise [val_main_v21, val_main_v20, val_main_v17, val_main_v16, val_main_v15, val_main_v14, val_main_cst_2]
  by_cases h : b.val < 512
  · rw [dif_pos h, if_pos h]
  · rw [dif_neg h, if_neg h]
    congr 3
    omega

end Reference

/-- Kernel and reference end with the same three arrays. -/
theorem algebraic : Cert.algebraic_Kernel9Ideal_Reference9Ideal := by
  intro m g m' g' _ hagree
  refine ⟨fun c => normA (aX m c) (aG m c), fun c => convA (aX m c) (aG m c) (aW m c), fun c => headsA (aX m c) (aG m c) (aW m c), ?_, ?_⟩
  · exact (θ_run _ _ _).mono (fun _ h c => ⟨(h c).1.trans (final3 m c), (h c).2.1.trans (final4 m c), (h c).2.2.1.trans (final5 m c), (h c).2.2.2⟩)
      (Value.run_blocks (F := Ideal) m g)
  · refine (θ_run _ _ _).mono (fun _ h c => ?_) (Cert.Reference9Ideal.Value.run (F := Ideal) m' g')
    obtain ⟨h0, h1, h2, hk⟩ := h c
    obtain ⟨e0, e1, e2⟩ := hagree c
    rw [Cert.Reference9Ideal.Read.val_main_v18_eq, e0, e1] at h0
    rw [Cert.Reference9Ideal.Read.val_main_v19_eq, e0, e1, e2] at h1
    rw [Cert.Reference9Ideal.Read.val_main_v21_eq, e0, e1, e2] at h2
    exact ⟨h0.trans (ref18 _ _), h1.trans (ref19 _ _ _), h2.trans (ref21 _ _ _), hk⟩

end Cert.Kernel9Ideal.InProj

end
-- ==== Proof.InProjBwd.lean ====
module

public import proofs.«01_k».proof.Defs
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Stores
public import proofs.«01_k».proof.Proof.Norms

/-! # The backward pass of the first norm and of the combined input projection

The kernel takes 512 rows at a time: the four parts of the projection's cotangent times their columns of the weight, then
the norm's derivative. Over the sixteen groups it adds up the gradient of the norm's gain. -/

@[expose] public section

set_option maxRecDepth 16384

noncomputable section

namespace Cert.Kernel4Ideal.InProjBwd

open Cert.Kernel4Ideal Cert.Kernel4Ideal.Gen Idealize.ShloMosaic Idealize.ShloMosaic.TcCoe Idealize.SL.Sem
open Idealize.ShloMosaic.Pipeline (Dat)

abbrev Conv := (⟨S8192x1024, .bf16⟩ : BufTy).Contents (Elt Ideal)
abbrev Heads := (⟨S8192x512, .f32⟩ : BufTy).Contents (Elt Ideal)
abbrev Weight := (⟨S1024x2560, .bf16⟩ : BufTy).Contents (Elt Ideal)
abbrev Rows := (⟨S8192x1024, .f32⟩ : BufTy).Contents (Elt Ideal)
abbrev Gain := (⟨S1x1024, .f32⟩ : BufTy).Contents (Elt Ideal)

/-- The word of the row's length. -/
abbrev len : EReal := Ideal.ofBits .f32 0x44800000#32

/-- The four parts' products with the weight's rows, added up: `D` the convolution's part, `Q`, `K`, `V` the heads'. -/
def parts (D : Fin 1024 → EReal) (Q K V : Fin 512 → EReal) (w : Fin 2560 → EReal) : EReal :=
  (∑ s : Fin 1024, D s * w ⟨s.val, by omega⟩) + (∑ s : Fin 512, Q s * w ⟨1024 + s.val, by omega⟩)
    + (∑ s : Fin 512, K s * w ⟨1536 + s.val, by omega⟩) + ∑ s : Fin 512, V s * w ⟨2048 + s.val, by omega⟩

/-- The norm's factor of a row. -/
def factor (x : Fin 1024 → EReal) : EReal := Ideal.rsqrt (Ideal.div (∑ k, x k * x k) len + Cert.Norms.eps)

/-- The norm's derivative at column `j`: `x` the row, `d` the cotangent of the norm's output, `g` the gain. -/
def back (x d g : Fin 1024 → EReal) (j : Fin 1024) : EReal :=
  factor x * (d j * g j - x j * (factor x * factor x) * Ideal.div (∑ k, d k * g k * x k) len)

section Payloads

theorem pay1 (d x h : Vec Ideal S512x1024 .f32) (r : Vec Ideal S512x1 .f32) (g : Vec Ideal S1x1024 .f32) (a : Fin 512) (b : Fin 1024) :
    k0_pay1 d x r h g (ix2 a b) = h (ix2 a b) + r (ix2 a 0) * (d (ix2 a b) * g (ix2 0 b)
      - x (ix2 a b) * (r (ix2 a 0) * r (ix2 a 0)) * Ideal.div (∑ k : Fin 1024, (d (ix2 a k) * g (ix2 0 k) * x (ix2 a k) : EReal)) len) := by
  pointwise [k0_pay1]

theorem pay2 (d x : Vec Ideal S512x1024 .f32) (r : Vec Ideal S512x1 .f32) (acc : Vec Ideal S1x1024 .f32) (j) :
    k0_pay2 d x r acc j = acc j + ∑ k : Fin 512, (d (ix2 k (j 1)) * x (ix2 k (j 1)) * r (ix2 k 0) : EReal) := by
  pointwise [k0_pay2]

theorem pay3 (j) : k0_pay3 (F := Ideal) j = 0 := by pointwise [k0_pay3]

theorem pay5 (x : Vec Ideal S512x1024 .f32) (a : Fin 512) : k0_pay5 x (ix2 a 0) = factor fun k => x (ix2 a k) := by
  pointwise [k0_pay5, factor]

theorem pay4 (d : Vec Ideal S512x1024 .bf16) (q k v : Vec Ideal S512x512 .f32) (w : Vec Ideal S1024x2560 .bf16) (a : Fin 512) (b : Fin 1024) :
    k0_pay4 d (View.ld w (Rect.unit ![0, 0] ![1024, 1024] inb_S1024x2560_S1024x1024_0_0))
        q (View.ld w (Rect.unit ![0, 1024] ![1024, 512] inb_S1024x2560_S1024x512_0_1024))
        k (View.ld w (Rect.unit ![0, 1536] ![1024, 512] inb_S1024x2560_S1024x512_0_1536))
        v (View.ld w (Rect.unit ![0, 2048] ![1024, 512] inb_S1024x2560_S1024x512_0_2048)) (ix2 a b)
      = parts (fun s => d (ix2 a s)) (fun s => q (ix2 a s)) (fun s => k (ix2 a s)) (fun s => v (ix2 a s)) (fun s => w (ix2 b s)) := by
  pointwise [k0_pay4, parts]

end Payloads

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0]
    ∧ win0_6.index t = ![0, 0] ∧ win0_7.index t = ![t.val, 0] ∧ win0_8.index t = ![t.val, 0] ∧ win0_9.index t = ![0, 0] :=
  (by decide +kernel : ∀ t : Fin grid0.N, _)

/-- The arguments on device `c`. -/
abbrev aD (c : Dev nD) : Conv := m ((c : Thread nD τ).loc main_arg0)
abbrev aQ (c : Dev nD) : Heads := m ((c : Thread nD τ).loc main_arg1)
abbrev aK (c : Dev nD) : Heads := m ((c : Thread nD τ).loc main_arg2)
abbrev aV (c : Dev nD) : Heads := m ((c : Thread nD τ).loc main_arg3)
abbrev aW (c : Dev nD) : Weight := m ((c : Thread nD τ).loc main_arg4)
abbrev aX (c : Dev nD) : Rows := m ((c : Thread nD τ).loc main_arg5)
abbrev aG (c : Dev nD) : Gain := m ((c : Thread nD τ).loc main_arg6)
abbrev aH (c : Dev nD) : Rows := m ((c : Thread nD τ).loc main_arg7)

/-- The cotangent of the norm's output at row `i`. -/
def dnorm (D : Conv) (Q K V : Heads) (W : Weight) (i : Fin 8192) (j : Fin 1024) : EReal :=
  parts (fun s => D (ix2 i s)) (fun s => Q (ix2 i s)) (fun s => K (ix2 i s)) (fun s => V (ix2 i s)) (fun s => W (ix2 j s))

/-- The first result: the cotangent of the layer's input. -/
def gradX (D : Conv) (Q K V : Heads) (W : Weight) (X : Rows) (G : Gain) (H : Rows) : Rows := fun j =>
  (H j : EReal) + back (fun k => X (ix2 (j 0) k)) (dnorm D Q K V W (j 0)) (fun k => G (ix2 0 k)) (j 1)

/-- The second result: the gradient of the gain. -/
def gradG (D : Conv) (Q K V : Heads) (W : Weight) (X : Rows) : Gain := fun j =>
  ∑ i : Fin 8192, dnorm D Q K V W i (j 1) * (X (ix2 i (j 1)) : EReal) * factor fun k => X (ix2 i k)

/-- The row of the array at row `r` of group `t`. -/
def row (t : Fin cfg0.N) (r : Fin 512) : Fin 8192 := ⟨t.val * 512 + r.val, by have h : t.val < 16 := t.isLt; omega⟩

section Blocks
variable (c : Dev nD) (t : Fin cfg0.N)

theorem in0 (r : Fin 512) (R : Fin 8192) (hR : R.val = t.val * 512 + r.val) (k : Fin 1024) :
    (iblk m c 0 t : Vec Ideal S512x1024 .bf16) (ix2 r k) = aD m c (ix2 R k) := by blk_point [iblk, V, idx t]
theorem in1 (r : Fin 512) (R : Fin 8192) (hR : R.val = t.val * 512 + r.val) (k : Fin 512) :
    (iblk m c 1 t : Vec Ideal S512x512 .f32) (ix2 r k) = aQ m c (ix2 R k) := by blk_point [iblk, V, idx t]
theorem in2 (r : Fin 512) (R : Fin 8192) (hR : R.val = t.val * 512 + r.val) (k : Fin 512) :
    (iblk m c 2 t : Vec Ideal S512x512 .f32) (ix2 r k) = aK m c (ix2 R k) := by blk_point [iblk, V, idx t]
theorem in3 (r : Fin 512) (R : Fin 8192) (hR : R.val = t.val * 512 + r.val) (k : Fin 512) :
    (iblk m c 3 t : Vec Ideal S512x512 .f32) (ix2 r k) = aV m c (ix2 R k) := by blk_point [iblk, V, idx t]
theorem in4 (j : S1024x2560.Idx) : (iblk m c 4 t : Vec Ideal S1024x2560 .bf16) j = aW m c j := by blk_point [iblk, V, idx t]
theorem in5 (r : Fin 512) (R : Fin 8192) (hR : R.val = t.val * 512 + r.val) (k : Fin 1024) :
    (iblk m c 5 t : Vec Ideal S512x1024 .f32) (ix2 r k) = aX m c (ix2 R k) := by blk_point [iblk, V, idx t]
theorem in6 (j : S1x1024.Idx) : (iblk m c 6 t : Vec Ideal S1x1024 .f32) j = aG m c j := by blk_point [iblk, V, idx t]
theorem in7 (r : Fin 512) (R : Fin 8192) (hR : R.val = t.val * 512 + r.val) (k : Fin 1024) :
    (iblk m c 7 t : Vec Ideal S512x1024 .f32) (ix2 r k) = aH m c (ix2 R k) := by blk_point [iblk, V, idx t]

/-- The block of the cotangent of the norm's output. -/
abbrev dblk : Vec Ideal S512x1024 .f32 :=
  k0_pay4 (iblk m c 0 t) (View.ld (iblk m c 4 t) (Rect.unit ![0, 0] ![1024, 1024] inb_S1024x2560_S1024x1024_0_0))
    (iblk m c 1 t) (View.ld (iblk m c 4 t) (Rect.unit ![0, 1024] ![1024, 512] inb_S1024x2560_S1024x512_0_1024))
    (iblk m c 2 t) (View.ld (iblk m c 4 t) (Rect.unit ![0, 1536] ![1024, 512] inb_S1024x2560_S1024x512_0_1536))
    (iblk m c 3 t) (View.ld (iblk m c 4 t) (Rect.unit ![0, 2048] ![1024, 512] inb_S1024x2560_S1024x512_0_2048))

theorem dblk_eq (a : Fin 512) (b : Fin 1024) :
    dblk m c t (ix2 a b) = dnorm (aD m c) (aQ m c) (aK m c) (aV m c) (aW m c) (row t a) b := by
  refine (pay4 (iblk m c 0 t) (iblk m c 1 t) (iblk m c 2 t) (iblk m c 3 t) (iblk m c 4 t) a b).trans ?_
  unfold dnorm
  congr 1
  · funext s; exact in0 m c t a (row t a) rfl s
  · funext s; exact in1 m c t a (row t a) rfl s
  · funext s; exact in2 m c t a (row t a) rfl s
  · funext s; exact in3 m c t a (row t a) rfl s
  · funext s; exact in4 m c t _

theorem factor_eq (a : Fin 512) : k0_pay5 (iblk m c 5 t) (ix2 a 0) = factor fun k => aX m c (ix2 (row t a) k) := by
  rw [pay5]; congr 1; funext k; exact in5 m c t a (row t a) rfl k

/-- What point `t` leaves in the first result. -/
theorem point8 (j : S512x1024.Idx) : k0_pay1 (dblk m c t) (iblk m c 5 t) (k0_pay5 (iblk m c 5 t)) (iblk m c 7 t) (iblk m c 6 t) j
    = gradX (aD m c) (aQ m c) (aK m c) (aV m c) (aW m c) (aX m c) (aG m c) (aH m c) (ix2 (row t (j 0)) (j 1)) := by
  obtain ⟨a, b, rfl⟩ : ∃ a b, j = ix2 a b := ⟨j 0, j 1, Cert.Stores.idx2_ext rfl rfl⟩
  rw [pay1]
  simp only [dblk_eq, factor_eq, in5 m c t a (row t a) rfl, in6 m c t, in7 m c t a (row t a) rfl]
  rfl

theorem out8 (y : S512x1024.Idx) (R : Fin 8192) (hR : R.val = t.val * 512 + (y 0).val) :
    ((View.whole main_v0_0).slice (win0_8.rect t)).emb y = ix2 R (y 1) := by
  blk_ext [idx t]

/-- What group `t` adds to the gradient of the gain. -/
def term (j : S1x1024.Idx) : EReal := ∑ k : Fin 512, dnorm (aD m c) (aQ m c) (aK m c) (aV m c) (aW m c) (row t k) (j 1)
  * (aX m c (ix2 (row t k) (j 1)) : EReal) * factor fun s => aX m c (ix2 (row t k) s)

theorem point9 (acc : Vec Ideal S1x1024 .f32) (j : S1x1024.Idx) :
    k0_pay2 (dblk m c t) (iblk m c 5 t) (k0_pay5 (iblk m c 5 t)) acc j = (acc j : EReal) + term m c t j := by
  rw [pay2]
  refine congrArg (fun x : EReal => (acc j : EReal) + x) (Finset.sum_congr rfl fun k _ => ?_)
  exact congrArg₂ (fun x y : EReal => x * y) (congrArg₂ (fun x y : EReal => x * y) (dblk_eq m c t k (j 1))
    (in5 m c t k (row t k) rfl (j 1))) (factor_eq m c t k)

theorem first (j) : (outsAt0 m c t.val t.isLt).1 j
    = gradX (aD m c) (aQ m c) (aK m c) (aV m c) (aW m c) (aX m c) (aG m c) (aH m c) (ix2 (row t (j 0)) (j 1)) := by
  by_cases h : t.val % 16 = 0
  · rw [outsAt0_A m c t h]; frame_out; exact point8 m c t j
  · rw [outsAt0_B m c t h]; frame_out; exact point8 m c t j

theorem stepA (h : t.val % 16 = 0) (j) : (outsAt0 m c t.val t.isLt).2 j = (0 : EReal) + term m c t j := by
  rw [outsAt0_A m c t h]; frame_out
  rw [← pay3 j]; exact point9 m c t _ j

theorem stepB (h : ¬t.val % 16 = 0) (j) : (outsAt0 m c t.val t.isLt).2 j
    = ((outsAt0 m c (t.val - 1) (Nat.lt_of_le_of_lt (Nat.sub_le _ _) t.isLt)).2 j : EReal) + term m c t j := by
  rw [outsAt0_B m c t h]; frame_out; exact point9 m c t _ j

end Blocks

theorem final8 (c : Dev nD) : (dats m 0 c).arrAt 8 (cfgs 0).N
    = gradX (aD m c) (aQ m c) (aK m c) (aV m c) (aW m c) (aX m c) (aG m c) (aH m c) := by
  refine (dats m 0 c).arrAt_eq_of_covers 8 _ (by decide +kernel) fun t _ y => ?_
  blk_simp
  rw [after0_8, first, out8 t y (row t (y 0)) rfl]
  rfl

theorem final9 (c : Dev nD) : (dats m 0 c).arrAt 9 (cfgs 0).N = gradG (aD m c) (aQ m c) (aK m c) (aV m c) (aW m c) (aX m c) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0) (term m c)
    (fun t h j => stepA m c t h j) (fun t h j => stepB m c t h j) (le_of_eq N_0) t0_15 rfl j, zero_add]
  unfold gradG term
  exact Fin.sum_mul_add_congr fun t k hl => rfl

section Reference

open Cert.Reference4Ideal.Read

variable (D : Conv) (Q K V : Heads) (W : Weight) (X : Rows) (G : Gain) (H : Rows)

/-- A sum over the 2560 columns, part by part. -/
theorem sum_parts (f : Fin 2560 → EReal) : ∑ k, f k = (∑ s : Fin 1024, f ⟨s.val, by omega⟩) + (∑ s : Fin 512, f ⟨1024 + s.val, by omega⟩)
    + (∑ s : Fin 512, f ⟨1536 + s.val, by omega⟩) + ∑ s : Fin 512, f ⟨2048 + s.val, by omega⟩ := by
  rw [show (∑ k : Fin 2560, f k) = ∑ k : Fin (1024 + 512 + 512 + 512), f (Fin.cast (by norm_num) k) from rfl,
    Fin.sum_univ_add, Fin.sum_univ_add, Fin.sum_univ_add]
  rfl

/-- The words the reference pads with. -/
theorem z3 (i) : val_main_cst_3 (F := Ideal) i = 0 := Ideal.ofBits_zero_f32
theorem z4 (i) : val_main_cst_4 (F := Ideal) i = 0 := Ideal.ofBits_zero_f32
theorem z5 (i) : val_main_cst_5 (F := Ideal) i = 0 := Ideal.ofBits_zero_f32
theorem z6 (i) : val_main_cst_6 (F := Ideal) i = 0 := Ideal.ofBits_zero_f32

/-- The reference's cotangent of the projection, its four parts set side by side. -/
theorem ref28a (i : Fin 8192) (s : Fin 1024) : val_main_v28 (F := Ideal) D Q K V (ix2 i ⟨s.val, by omega⟩) = D (ix2 i s) := by
  pointwise [val_main_v28, val_main_v27, val_main_v26, val_main_v25, val_main_v24, val_main_v23, val_main_v22, val_main_v0]
  rw [dif_neg (by omega), dif_neg (by omega), dif_neg (by simp), z3, z4, z5]
  simp

theorem ref28b (i : Fin 8192) (s : Fin 512) : val_main_v28 (F := Ideal) D Q K V (ix2 i ⟨1024 + s.val, by omega⟩) = Q (ix2 i s) := by
  pointwise [val_main_v28, val_main_v27, val_main_v26, val_main_v25, val_main_v24, val_main_v23, val_main_v22, val_main_v0]
  rw [dif_neg (by omega), dif_neg (by omega), z3, z4, z6]
  simp

theorem ref28c (i : Fin 8192) (s : Fin 512) : val_main_v28 (F := Ideal) D Q K V (ix2 i ⟨1536 + s.val, by omega⟩) = K (ix2 i s) := by
  pointwise [val_main_v28, val_main_v27, val_main_v26, val_main_v25, val_main_v24, val_main_v23, val_main_v22, val_main_v0]
  rw [dif_neg (by omega), dif_neg (by omega), dif_neg (by omega), z3, z5, z6]
  simp

theorem ref28d (i : Fin 8192) (s : Fin 512) : val_main_v28 (F := Ideal) D Q K V (ix2 i ⟨2048 + s.val, by omega⟩) = V (ix2 i s) := by
  pointwise [val_main_v28, val_main_v27, val_main_v26, val_main_v25, val_main_v24, val_main_v23, val_main_v22, val_main_v0]
  rw [dif_neg (by omega), dif_neg (by omega), dif_neg (by omega), z4, z5, z6]
  simp

theorem ref29 (i : Fin 8192) (j : Fin 1024) : val_main_v29 (F := Ideal) D Q K V W (ix2 i j) = dnorm D Q K V W i j := by
  have e : val_main_v29 (F := Ideal) D Q K V W (ix2 i j)
      = ∑ k : Fin 2560, (val_main_v28 (F := Ideal) D Q K V (ix2 i k) * W (ix2 j k) : EReal) := by
    rw [val_main_v29_apply]
    refine Finset.sum_congr rfl fun k _ => ?_
    rw [show lidx_main_v29 (ix2 i j) k = ix2 i k from Cert.Stores.idx2_ext rfl rfl]
    exact congrArg (fun y : EReal => val_main_v28 (F := Ideal) D Q K V (ix2 i k) * y) (congrArg W (Cert.Stores.idx2_ext rfl rfl))
  rw [e, sum_parts]
  simp only [ref28a, ref28b, ref28c, ref28d]
  rfl

/-- The mean of a row's squares and epsilon. -/
def mean (x : Fin 1024 → EReal) : EReal := Ideal.div (∑ k, x k * x k) len + Cert.Norms.eps

theorem ref8 (i : Fin 8192) : val_main_v8 (F := Ideal) X (ix2 i 0) = mean fun k => X (ix2 i k) := by
  pointwise [val_main_v8, val_main_v7, val_main_cst_1, val_main_v6, val_main_v5, val_main_cst_0, val_main_v4, val_main_v3, val_main_cst, val_main_v2, mean]

theorem ref9 (i : Fin 8192) : val_main_v9 (F := Ideal) X (ix2 i 0) = factor fun k => X (ix2 i k) := by
  rw [val_main_v9_apply, ref8]; rfl

/-- The reference's cotangent of the mean of the squares, over the row's length. -/
theorem ref44 (i : Fin 8192) : val_main_v44 (F := Ideal) D Q K V W X G (ix1 i)
    = Ideal.div ((∑ k : Fin 1024, dnorm D Q K V W i k * (G (ix2 0 k) : EReal) * X (ix2 i k))
      * (Ideal.ofBits .f32 0xBF000000#32 * Ideal.div (factor fun k => X (ix2 i k)) (mean fun k => X (ix2 i k)))) len := by
  rw [← ref8, ← ref9]
  simp only [← ref29]
  pointwise [val_main_v44, val_main_v43, val_main_v42, val_main_v41, val_main_v37, val_main_v36, val_main_v35, val_main_v34, val_main_v33,
    val_main_v12, val_main_v11, val_main_v10, val_main_cst_8, val_main_cst_9, val_main_cst_10, val_main_cst_2]
  have one : ∀ f : Fin 1 → EReal, ∑ x, f x = f 0 := fun f => Fin.sum_univ_one f
  rw [one]
  exact congrArg (fun y => Ideal.div (y * _) len) (Finset.sum_congr rfl fun k _ => mul_comm _ _)

theorem ref49 : val_main_v49 (F := Ideal) D Q K V W X G H = gradX D Q K V W X G H := by
  funext j
  obtain ⟨a, b, rfl⟩ : ∃ a b, j = ix2 a b := ⟨j 0, j 1, Cert.Stores.idx2_ext rfl rfl⟩
  pointwise [val_main_v49, val_main_v48, val_main_v47, val_main_v46, val_main_v45, val_main_v40, val_main_v39, val_main_v38, val_main_v34, val_main_v33]
  rw [ref44, ref29, ref9]
  unfold gradX back
  rw [Cert.Norms.word_neg_half]
  have hv := Cert.Norms.mean_pos (n := 1024) (by norm_num) (∑ k : Fin 1024, (X (ix2 a k) * X (ix2 a k) : EReal))
    (Finset.sum_nonneg fun k _ => Cert.Norms.sq_nonneg _)
  have e := Cert.Norms.rms_grad (n := 1024) (by norm_num) _ hv (H (ix2 a b)) (dnorm D Q K V W a b * (G (ix2 0 b) : EReal)) (X (ix2 a b))
    (∑ k : Fin 1024, (dnorm D Q K V W a k * (G (ix2 0 k) : EReal) * X (ix2 a k) : EReal))
  rw [← Cert.Norms.word_1024] at e
  exact e.symm

theorem ref32 : val_main_v32 (F := Ideal) D Q K V W X = gradG D Q K V W X := by
  funext j
  obtain ⟨a, b, rfl⟩ : ∃ a b, j = ix2 a b := ⟨j 0, j 1, Cert.Stores.idx2_ext rfl rfl⟩
  pointwise [val_main_v32, val_main_v31, val_main_v30, val_main_v14, val_main_v13, val_main_cst_7]
  refine Finset.sum_congr rfl fun k _ => ?_
  rw [ref29, ref9, mul_comm, ← mul_assoc]
  rfl

end Reference

/-- Kernel and reference end with the same two arrays. -/
theorem algebraic : Cert.algebraic_Kernel4Ideal_Reference4Ideal := by
  intro m g m' g' _ hagree
  refine ⟨fun c => gradX (aD m c) (aQ m c) (aK m c) (aV m c) (aW m c) (aX m c) (aG m c) (aH m c),
    fun c => gradG (aD m c) (aQ m c) (aK m c) (aV m c) (aW m c) (aX m c), ?_, ?_⟩
  · exact (θ_run _ _ _).mono (fun _ h c => ⟨(h c).1.trans (final8 m c), (h c).2.1.trans (final9 m c), (h c).2.2⟩)
      (Value.run_blocks (F := Ideal) m g)
  · refine (θ_run _ _ _).mono (fun _ h c => ?_) (Cert.Reference4Ideal.Value.run (F := Ideal) m' g')
    obtain ⟨h0, h1, hk⟩ := h c
    obtain ⟨e0, e1, e2, e3, e4, e5, e6, e7⟩ := hagree c
    rw [Cert.Reference4Ideal.Read.val_main_v49_eq, e0, e1, e2, e3, e4, e5, e6, e7] at h0
    rw [Cert.Reference4Ideal.Read.val_main_v32_eq, e0, e1, e2, e3, e4, e5] at h1
    exact ⟨h0.trans (ref49 _ _ _ _ _ _ _ _), h1.trans (ref32 _ _ _ _ _ _), hk⟩

end Cert.Kernel4Ideal.InProjBwd

end
-- ==== Proof.MixBwd.lean ====
module

public import proofs.«01_k».proof.Defs
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Stores
public import proofs.«01_k».proof.Proof.Norms
public import Idealize.ShloMosaic.Lib.Pipeline.ReadBack

/-! # The mixer's backward pass

The kernel takes 512 rows at a time. Down each row it goes back through the norm before the feed-forward block, the residual,
the norm after the output projection, the two halves of the projection, and the norm of each of the eight heads. The gradients of
the three gains are sums over all rows, kept in one block across the steps. The heads are handled in pairs of 64 columns each,
so a sum over one head is a sum over half of a pair's lanes. -/

@[expose] public section

set_option maxRecDepth 16384

noncomputable section

namespace Cert.Kernel6Ideal.MixBwd

open Cert.Kernel6Ideal Cert.Kernel6Ideal.Gen Idealize.ShloMosaic Idealize.ShloMosaic.TcCoe Idealize.SL.Sem
open Idealize.ShloMosaic.Pipeline (Dat)
open Idealize.ShloMosaic.StableHlo (launchContents)
open Cert.Norms (factor mean back flow)

variable (m : (ℓ : Loc nD τ sig) → Buf (Elt Ideal) ℓ)

/-! The types of the arrays. -/

abbrev Part := (⟨S8192x512, .bf16⟩ : BufTy).Contents (Elt Ideal)
abbrev Heads := (⟨S8192x512, .f32⟩ : BufTy).Contents (Elt Ideal)
abbrev Weight := (⟨S1024x1024, .bf16⟩ : BufTy).Contents (Elt Ideal)
abbrev Rows := (⟨S8192x1024, .f32⟩ : BufTy).Contents (Elt Ideal)
abbrev Gain := (⟨S1x1024, .f32⟩ : BufTy).Contents (Elt Ideal)
abbrev Narrow := (⟨S1x512, .f32⟩ : BufTy).Contents (Elt Ideal)
abbrev Normed := (⟨S8192x1024, .bf16⟩ : BufTy).Contents (Elt Ideal)

/-! The nine arguments of the kernel. -/

abbrev aP (c : Dev nD) : Part := m ((c : Thread nD τ).loc main_arg0)
abbrev aO (c : Dev nD) : Heads := m ((c : Thread nD τ).loc main_arg1)
abbrev aW (c : Dev nD) : Weight := m ((c : Thread nD τ).loc main_arg2)
abbrev aX (c : Dev nD) : Rows := m ((c : Thread nD τ).loc main_arg3)
abbrev aA (c : Dev nD) : Narrow := m ((c : Thread nD τ).loc main_arg4)
abbrev aG (c : Dev nD) : Gain := m ((c : Thread nD τ).loc main_arg5)
abbrev aH (c : Dev nD) : Gain := m ((c : Thread nD τ).loc main_arg6)
abbrev aE (c : Dev nD) : Rows := m ((c : Thread nD τ).loc main_arg7)
abbrev aF (c : Dev nD) : Rows := m ((c : Thread nD τ).loc main_arg8)

/-- The projected rows the kernel is given are the ones the reference computes. -/
theorem v18 (c : Dev nD) : V m c main_v18 = Cert.Reference6Ideal.Read.val_main_v21 (F := Ideal) (aP m c) (aO m c) (aW m c) (aA m c) := by
  entry_read
  rfl

/-- The residual sum the kernel is given is the one the reference computes. -/
theorem v31 (c : Dev nD) : V m c main_v31
    = Cert.Reference6Ideal.Read.val_main_v37 (F := Ideal) (aP m c) (aO m c) (aW m c) (aX m c) (aA m c) (aG m c) := by
  entry_read
  rfl

section Payloads
variable (y h d e : Vec Ideal S512x1024 .f32) (g acc : Vec Ideal S1x1024 .f32) (z : Vec Ideal S512x1024 .bf16)
variable (o D : Vec Ideal S512x128 .f32) (A : Vec Ideal S1x128 .f32) (w : Vec Ideal S1024x1024 .bf16)

theorem pay5 (a : Fin 512) : k0_pay5 h (ix2 a 0) = factor fun k => h (ix2 a k) := by
  pointwise [k0_pay5, k0_pay4, factor, mean]

theorem pay6 (a : Fin 512) (b : Fin 1024) : k0_pay6 h d e g (ix2 a b)
    = e (ix2 a b) + back (fun k => h (ix2 a k)) (fun k => d (ix2 a k)) (fun k => g (ix2 0 k)) b := by
  unfold back
  rw [← pay5]
  pointwise [k0_pay6, k0_pay4]

theorem pay7 (j) : k0_pay7 h d acc j = acc j + ∑ k : Fin 512, (d (ix2 k (j 1)) * h (ix2 k (j 1)) * k0_pay5 h (ix2 k 0) : EReal) := by
  pointwise [k0_pay7, k0_pay4]

theorem pay9 (a : Fin 512) : k0_pay9 h (ix2 a 0) = factor fun k => h (ix2 a k) := by
  pointwise [k0_pay9, k0_pay8, factor, mean]

theorem pay10 (a : Fin 512) (b : Fin 1024) : k0_pay10 d h g (ix2 a b)
    = back (fun k => h (ix2 a k)) (fun k => d (ix2 a k)) (fun k => g (ix2 0 k)) b := by
  unfold back
  rw [← pay9]
  pointwise [k0_pay10, k0_pay8]

theorem pay11 (j) : k0_pay11 d h acc j = acc j + ∑ k : Fin 512, (d (ix2 k (j 1)) * h (ix2 k (j 1)) * k0_pay9 h (ix2 k 0) : EReal) := by
  pointwise [k0_pay11, k0_pay8]

theorem pay12 (a b : Fin 512) : k0_pay12 z (View.ld w (Rect.unit ![0, 0] ![512, 1024] inb_S1024x1024_S512x1024_0_0)) (ix2 a b)
    = ∑ k : Fin 1024, (z (ix2 a k) * w (ix2 ⟨b.val, by omega⟩ k) : EReal) := by
  pointwise [k0_pay12]

theorem pay13 (a b : Fin 512) : k0_pay13 z (View.ld w (Rect.unit ![512, 0] ![512, 1024] inb_S1024x1024_S512x1024_512_0)) (ix2 a b)
    = ∑ k : Fin 1024, (z (ix2 a k) * w (ix2 ⟨512 + b.val, by omega⟩ k) : EReal) := by
  pointwise [k0_pay13]

end Payloads

theorem word_64th : Ideal.ofBits .f32 0x3C800000#32 = ((1 / 64 : ℝ) : EReal) := by
  simp [Ideal.ofBits, Ideal.ieee, -EReal.coe_mul]; norm_num

/-- Multiplying by the word of a 64th, and dividing by the word of 64. -/
theorem mul_64th (x : EReal) : x * Ideal.ofBits .f32 0x3C800000#32 = Ideal.div x (Ideal.ofBits .f32 0x42800000#32) := by
  rw [word_64th, Cert.Norms.word_64, Ideal.div_coe (by norm_num)]

/-- The sum over the 64 columns of column `p`'s head. -/
def headSum (f : Fin 512 → EReal) (p : Fin 512) : EReal := ∑ e : Fin 64, f ⟨64 * (p.val / 64) + e.val, by omega⟩

/-- The mean of the squares of a row over column `p`'s head, and epsilon; the norm's factor. -/
def headMean (x : Fin 512 → EReal) (p : Fin 512) : EReal :=
  Ideal.div (headSum (fun s => x s * x s) p) (Ideal.ofBits .f32 0x42800000#32) + Cert.Norms.eps
def headFactor (x : Fin 512 → EReal) (p : Fin 512) : EReal := Ideal.rsqrt (headMean x p)

/-- The derivative of the norm of each head: `x` the row, `d` the cotangent of the norm's output, `g` the gain. -/
def headBack (x d g : Fin 512 → EReal) (p : Fin 512) : EReal :=
  headFactor x p * (d p * g p - x p * (headFactor x p * headFactor x p)
    * Ideal.div (headSum (fun s => d s * g s * x s) p) (Ideal.ofBits .f32 0x42800000#32))

/-- The mask's word of a lane: which of the two heads of a pair the lane is of. -/
abbrev lane (b : Fin 128) : BitVec 1 := k0_pay14 (ix2 0 b)

theorem lane_lt (b : Fin 128) (h : b.val < 64) : lane b = 1#1 := by
  unfold lane
  pointwise [k0_pay14]
  have : ∀ b : Fin 128, b.val < 64 → IntOp.cmpi CmpIPredicate.slt (BitVec.ofNat 32 b.val) 64#32 = 1#1 := by decide
  exact this b h

theorem lane_ge (b : Fin 128) (h : ¬b.val < 64) : lane b = 0#1 := by
  unfold lane
  pointwise [k0_pay14]
  have : ∀ b : Fin 128, ¬b.val < 64 → IntOp.cmpi CmpIPredicate.slt (BitVec.ofNat 32 b.val) 64#32 = 0#1 := by decide
  exact this b h

theorem sel_lt {α : Type} (b : Fin 128) (h : b.val < 64) (x y : α) : Scalar.select (lane b) x y = x := by
  rw [lane_lt b h]; rfl
theorem sel_ge {α : Type} (b : Fin 128) (h : ¬b.val < 64) (x y : α) : Scalar.select (lane b) x y = y := by
  rw [lane_ge b h]; rfl

theorem sum_lanes (f : Fin 128 → EReal) : ∑ k, f k = (∑ e : Fin 64, f ⟨e.val, by omega⟩) + ∑ e : Fin 64, f ⟨64 + e.val, by omega⟩ := by
  rw [show (∑ k : Fin 128, f k) = ∑ k : Fin (64 + 64), f (Fin.cast (by norm_num) k) from rfl, Fin.sum_univ_add]
  rfl

/-- The sum under the mask, over the pair's first head and over its second. -/
theorem sum_first (f : Fin 128 → EReal) : ∑ k, Scalar.select (lane k) (f k) 0 = ∑ e : Fin 64, f ⟨e.val, by omega⟩ := by
  refine (sum_lanes _).trans (Eq.trans (congrArg₂ (fun x y : EReal => x + y) (Finset.sum_congr rfl fun e _ => ?_)
    (Finset.sum_eq_zero fun e _ => ?_)) (add_zero _))
  · exact sel_lt ⟨e.val, by omega⟩ e.isLt _ _
  · exact sel_ge ⟨64 + e.val, by omega⟩ (by simp) _ _
theorem sum_second (f : Fin 128 → EReal) : ∑ k, Scalar.select (lane k) 0 (f k) = ∑ e : Fin 64, f ⟨64 + e.val, by omega⟩ := by
  refine (sum_lanes _).trans (Eq.trans (congrArg₂ (fun x y : EReal => x + y) (Finset.sum_eq_zero fun e _ => ?_)
    (Finset.sum_congr rfl fun e _ => ?_)) (zero_add _))
  · exact sel_lt ⟨e.val, by omega⟩ e.isLt _ _
  · exact sel_ge ⟨64 + e.val, by omega⟩ (by simp) _ _

/-- A lane's sum over its head, chosen by the mask. -/
def laneSum (f : Fin 128 → EReal) (b : Fin 128) : EReal :=
  Scalar.select (lane b) (∑ k, Scalar.select (lane k) (f k) 0) (∑ k, Scalar.select (lane k) 0 (f k))

/-- A lane's factor, chosen by the mask. -/
def laneFactor (x : Fin 128 → EReal) (b : Fin 128) : EReal :=
  Scalar.select (lane b)
    (Ideal.rsqrt ((∑ k, Scalar.select (lane k) (x k * x k) 0) * Ideal.ofBits .f32 0x3C800000#32 + Cert.Norms.eps))
    (Ideal.rsqrt ((∑ k, Scalar.select (lane k) 0 (x k * x k)) * Ideal.ofBits .f32 0x3C800000#32 + Cert.Norms.eps))

/-- The derivative of the norm of a pair of heads, as the kernel takes it. -/
def laneBack (x d g : Fin 128 → EReal) (b : Fin 128) : EReal :=
  laneFactor x b * (d b * g b - x b * (laneFactor x b * laneFactor x b)
    * (laneSum (fun s => d s * g s * x s) b * Ideal.ofBits .f32 0x3C800000#32))

/-- The lanes of pair `q` in a row. -/
abbrev lanes (q : Fin 4) (x : Fin 512 → EReal) (b : Fin 128) : EReal := x ⟨128 * q.val + b.val, by omega⟩

theorem laneSum_eq (q : Fin 4) (f : Fin 512 → EReal) (b : Fin 128) :
    laneSum (lanes q f) b = headSum f ⟨128 * q.val + b.val, by omega⟩ := by
  unfold laneSum headSum
  rw [sum_first, sum_second]
  by_cases h : b.val < 64
  · rw [sel_lt b h]
    exact Finset.sum_congr rfl fun e _ => congrArg f (Fin.ext (by simp only; omega))
  · rw [sel_ge b h]
    exact Finset.sum_congr rfl fun e _ => congrArg f (Fin.ext (by simp only; omega))

theorem laneFactor_eq (q : Fin 4) (x : Fin 512 → EReal) (b : Fin 128) :
    laneFactor (lanes q x) b = headFactor x ⟨128 * q.val + b.val, by omega⟩ := by
  unfold headFactor headMean
  rw [← laneSum_eq q (fun s => x s * x s) b, ← mul_64th]
  unfold laneFactor laneSum
  by_cases h : b.val < 64
  · rw [sel_lt b h, sel_lt b h]
  · rw [sel_ge b h, sel_ge b h]

theorem laneBack_eq (q : Fin 4) (x d g : Fin 512 → EReal) (b : Fin 128) :
    laneBack (lanes q x) (lanes q d) (lanes q g) b = headBack x d g ⟨128 * q.val + b.val, by omega⟩ := by
  unfold laneBack headBack
  have e : laneSum (fun s => lanes q d s * lanes q g s * lanes q x s) b = headSum (fun s => d s * g s * x s) ⟨128 * q.val + b.val, by omega⟩ :=
    laneSum_eq q (fun s => d s * g s * x s) b
  rw [laneFactor_eq q x b, mul_64th, e]

section Pairs
variable (o D : Vec Ideal S512x128 .f32) (A acc : Vec Ideal S1x128 .f32) (v : Vec Ideal S512x512 .f32) (z w : Vec Ideal S512x1024 .bf16)

/-- A row of a pair's block. -/
abbrev r128 (a : Fin 512) : Fin 128 → EReal := fun s => o (ix2 a s)
abbrev g128 : Fin 128 → EReal := fun s => A (ix2 0 s)

theorem pay21 (a : Fin 512) (b : Fin 128) :
    k0_pay21 k0_pay14 o D A (k0_pay17 o) (k0_pay18 o) k0_pay19 (ix2 a b) = laneBack (r128 o a) (r128 D a) (g128 A) b := by
  unfold laneBack laneFactor laneSum
  pointwise [k0_pay21, k0_pay17, k0_pay18, k0_pay19, k0_pay16, k0_pay20]

theorem pay29 (a : Fin 512) (b : Fin 128) :
    k0_pay29 k0_pay14 o (k0_pay24 k0_pay14 o) (k0_pay25 v A) (k0_pay27 v k0_pay14 o A) (k0_pay28 v k0_pay14 o A) (ix2 a b)
      = laneBack (r128 o a) (r128 (k0_pay23 (F := Ideal) v) a) (g128 A) b := by
  unfold laneBack laneFactor laneSum
  pointwise [k0_pay29, k0_pay24, k0_pay25, k0_pay27, k0_pay28, k0_pay26]

theorem pay36 (a : Fin 512) (b : Fin 128) :
    k0_pay36 k0_pay14 o D A (k0_pay33 k0_pay14 o) (k0_pay34 k0_pay14 o) (ix2 a b) = laneBack (r128 o a) (r128 D a) (g128 A) b := by
  unfold laneBack laneFactor laneSum
  pointwise [k0_pay36, k0_pay32, k0_pay33, k0_pay34, k0_pay35]

theorem pay40 (a : Fin 512) (b : Fin 128) :
    k0_pay40 k0_pay14 o D A (k0_pay39 k0_pay14 o) (ix2 a b) = laneBack (r128 o a) (r128 D a) (g128 A) b := by
  unfold laneBack laneFactor laneSum
  pointwise [k0_pay40, k0_pay39]

/-- What a group adds to a pair's part of the gradient of the gain. -/
def gainSum (b : Fin 128) : EReal := ∑ k : Fin 512, r128 D k b * r128 o k b * laneFactor (r128 o k) b

theorem pay22 (b : Fin 128) :
    k0_pay22 o D (k0_pay17 o) (k0_pay18 o) k0_pay19 acc (ix2 0 b) = acc (ix2 0 b) + gainSum o D b := by
  unfold gainSum laneFactor
  pointwise [k0_pay22, k0_pay17, k0_pay18, k0_pay19, k0_pay16, k0_pay20]

theorem pay30 (b : Fin 128) : k0_pay30 o D (k0_pay24 k0_pay14 o) acc (ix2 0 b) = acc (ix2 0 b) + gainSum o D b := by
  unfold gainSum laneFactor
  pointwise [k0_pay30, k0_pay24]

theorem pay37 (b : Fin 128) :
    k0_pay37 o D (k0_pay35 k0_pay14 (k0_pay33 k0_pay14 o) (k0_pay34 k0_pay14 o)) acc (ix2 0 b) = acc (ix2 0 b) + gainSum o D b := by
  unfold gainSum laneFactor
  pointwise [k0_pay37, k0_pay32, k0_pay33, k0_pay34, k0_pay35]

theorem pay41 (b : Fin 128) : k0_pay41 o D (k0_pay39 k0_pay14 o) acc (ix2 0 b) = acc (ix2 0 b) + gainSum o D b := by
  unfold gainSum laneFactor
  pointwise [k0_pay41, k0_pay39]

end Pairs
theorem pay1 (j) : k0_pay1 (F := Ideal) j = 0 := by pointwise [k0_pay1]
theorem pay2 (j) : k0_pay2 (F := Ideal) j = 0 := by pointwise [k0_pay2]
theorem pay3 (j) : k0_pay3 (F := Ideal) j = 0 := by pointwise [k0_pay3]

section Pairs
variable (O v : Vec Ideal S512x512 .f32) (G : Vec Ideal S1x512 .f32) (z w : Vec Ideal S512x1024 .bf16)

/-- A pair's lanes of a row of the values, of the cotangents and of the gain. -/
theorem laneO0 (a : Fin 512) : r128 (View.ld O (Rect.unit ![0, 0] ![512, 128] inb_S512x512_S512x128_0_0) : Vec Ideal S512x128 .f32) a
    = lanes 0 fun s => O (ix2 a s) := by
  funext b; pointwise [lanes, r128, g128]
theorem laneO1 (a : Fin 512) : r128 (View.ld O (Rect.unit ![0, 128] ![512, 128] inb_S512x512_S512x128_0_128) : Vec Ideal S512x128 .f32) a
    = lanes 1 fun s => O (ix2 a s) := by
  funext b; pointwise [lanes, r128, g128]
theorem laneO2 (a : Fin 512) : r128 (View.ld O (Rect.unit ![0, 256] ![512, 128] inb_S512x512_S512x128_0_256) : Vec Ideal S512x128 .f32) a
    = lanes 2 fun s => O (ix2 a s) := by
  funext b; pointwise [lanes, r128, g128]
theorem laneO3 (a : Fin 512) : r128 (View.ld O (Rect.unit ![0, 384] ![512, 128] inb_S512x512_S512x128_0_384) : Vec Ideal S512x128 .f32) a
    = lanes 3 fun s => O (ix2 a s) := by
  funext b; pointwise [lanes, r128, g128]
theorem laneG0 : g128 (View.ld G (Rect.unit ![0, 0] ![1, 128] inb_S1x512_S1x128_0_0) : Vec Ideal S1x128 .f32)
    = lanes 0 fun s => G (ix2 0 s) := by
  funext b; pointwise [lanes, r128, g128]
theorem laneG1 : g128 (View.ld G (Rect.unit ![0, 128] ![1, 128] inb_S1x512_S1x128_0_128) : Vec Ideal S1x128 .f32)
    = lanes 1 fun s => G (ix2 0 s) := by
  funext b; pointwise [lanes, r128, g128]
theorem laneG2 : g128 (View.ld G (Rect.unit ![0, 256] ![1, 128] inb_S1x512_S1x128_0_256) : Vec Ideal S1x128 .f32)
    = lanes 2 fun s => G (ix2 0 s) := by
  funext b; pointwise [lanes, r128, g128]
theorem laneG3 : g128 (View.ld G (Rect.unit ![0, 384] ![1, 128] inb_S1x512_S1x128_0_384) : Vec Ideal S1x128 .f32)
    = lanes 3 fun s => G (ix2 0 s) := by
  funext b; pointwise [lanes, r128, g128]
theorem laneD0 (a : Fin 512) : r128 (k0_pay15 (F := Ideal) z w) a
    = lanes 0 fun s => k0_pay13 (F := Ideal) z w (ix2 a s) := by
  funext b; pointwise [lanes, k0_pay15, k0_pay13]
theorem laneD1 (a : Fin 512) : r128 (k0_pay23 (F := Ideal) v) a = lanes 1 fun s => v (ix2 a s) := by
  funext b; pointwise [lanes, k0_pay23]
theorem laneD2 (a : Fin 512) : r128 (k0_pay31 (F := Ideal) v) a = lanes 2 fun s => v (ix2 a s) := by
  funext b; pointwise [lanes, k0_pay31]
theorem laneD3 (a : Fin 512) : r128 (k0_pay38 (F := Ideal) v) a = lanes 3 fun s => v (ix2 a s) := by
  funext b; pointwise [lanes, k0_pay38]

end Pairs

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![0, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0]
    ∧ win0_15.index t = ![0, 0] :=
  (by decide +kernel : ∀ t : Fin grid0.N, _)

section Results
variable (Y H E F : Rows) (W : Weight) (O : Heads) (A : Narrow) (G1 G2 : Gain)

/-- A row of an array, and a gain. -/
abbrev rowOf (X : Rows) (i : Fin 8192) : Fin 1024 → EReal := fun k => X (ix2 i k)
abbrev gainOf (G : Gain) : Fin 1024 → EReal := fun k => G (ix2 0 k)

/-- Row `i` of the cotangent of the residual sum, of the projection, of the mixer's output and of its attention half. -/
def hRow (i : Fin 8192) (j : Fin 1024) : EReal := (E (ix2 i j) : EReal) + back (rowOf H i) (rowOf F i) (gainOf G2) j
def yRow (i : Fin 8192) : Fin 1024 → EReal := back (rowOf Y i) (hRow H E F G2 i) (gainOf G1)
def cRow (i : Fin 8192) (s : Fin 1024) : EReal := ∑ k : Fin 1024, yRow Y H E F G1 G2 i k * W (ix2 s k)
def oRow (i : Fin 8192) (s : Fin 512) : EReal := cRow Y H E F W G1 G2 i ⟨512 + s.val, by omega⟩

/-- The seven results. -/
def hA : Rows := fun j => hRow H E F G2 (j 0) (j 1)
def yA : Normed := fun j => yRow Y H E F G1 G2 (j 0) (j 1)
def coA : Heads := fun j => cRow Y H E F W G1 G2 (j 0) ⟨(j 1).val, lt_trans (j 1).isLt (by decide)⟩
def doA : Part := fun j => headBack (fun s => O (ix2 (j 0) s)) (oRow Y H E F W G1 G2 (j 0)) (fun s => A (ix2 0 s)) (j 1)
def g2A : Gain := fun j => ∑ i : Fin 8192, rowOf F i (j 1) * rowOf H i (j 1) * factor (rowOf H i)
def g1A : Gain := fun j => ∑ i : Fin 8192, hRow H E F G2 i (j 1) * rowOf Y i (j 1) * factor (rowOf Y i)
def gaA : Narrow := fun j => ∑ i : Fin 8192, oRow Y H E F W G1 G2 i (j 1) * O (ix2 i (j 1)) * headFactor (fun s => O (ix2 i s)) (j 1)

end Results

/-- The projection and the residual sum, which the program computes again before the kernel. -/
def yIn (c : Dev nD) : Rows := V m c main_v18
def hIn (c : Dev nD) : Rows := V m c main_v31

/-- The row of the array at row `r` of group `t`. -/
def row (t : Fin cfg0.N) (r : Fin 512) : Fin 8192 := ⟨t.val * 512 + r.val, by have h : t.val < 16 := t.isLt; omega⟩

section Blocks
variable (c : Dev nD) (t : Fin cfg0.N)

theorem in0 (r : Fin 512) (R : Fin 8192) (hR : R.val = t.val * 512 + r.val) (k : Fin 1024) :
    (iblk m c 0 t : Vec Ideal S512x1024 .f32) (ix2 r k) = aF m c (ix2 R k) := by blk_point [iblk, V, idx t]
theorem in1 (r : Fin 512) (R : Fin 8192) (hR : R.val = t.val * 512 + r.val) (k : Fin 1024) :
    (iblk m c 1 t : Vec Ideal S512x1024 .f32) (ix2 r k) = hIn m c (ix2 R k) := by
  unfold iblk hIn; blk_simp; congr 1; blk_ext [idx t]
theorem in2 (r : Fin 512) (R : Fin 8192) (hR : R.val = t.val * 512 + r.val) (k : Fin 1024) :
    (iblk m c 2 t : Vec Ideal S512x1024 .f32) (ix2 r k) = yIn m c (ix2 R k) := by
  unfold iblk yIn; blk_simp; congr 1; blk_ext [idx t]
theorem in3 (r : Fin 512) (R : Fin 8192) (hR : R.val = t.val * 512 + r.val) (k : Fin 1024) :
    (iblk m c 3 t : Vec Ideal S512x1024 .f32) (ix2 r k) = aE m c (ix2 R k) := by blk_point [iblk, V, idx t]
theorem in4 (j : S1x1024.Idx) : (iblk m c 4 t : Vec Ideal S1x1024 .f32) j = aH m c j := by blk_point [iblk, V, idx t]
theorem in5 (j : S1x1024.Idx) : (iblk m c 5 t : Vec Ideal S1x1024 .f32) j = aG m c j := by blk_point [iblk, V, idx t]
theorem in6 (j : S1024x1024.Idx) : (iblk m c 6 t : Vec Ideal S1024x1024 .bf16) j = aW m c j := by blk_point [iblk, V, idx t]
theorem in7 (r : Fin 512) (R : Fin 8192) (hR : R.val = t.val * 512 + r.val) (k : Fin 512) :
    (iblk m c 7 t : Vec Ideal S512x512 .f32) (ix2 r k) = aO m c (ix2 R k) := by blk_point [iblk, V, idx t]
theorem in8 (j : S1x512.Idx) : (iblk m c 8 t : Vec Ideal S1x512 .f32) j = aA m c j := by blk_point [iblk, V, idx t]

/-- The rows of device `c`'s results. -/
abbrev hR (i : Fin 8192) := hRow (hIn m c) (aE m c) (aF m c) (aH m c) i
abbrev yR (i : Fin 8192) := yRow (yIn m c) (hIn m c) (aE m c) (aF m c) (aG m c) (aH m c) i
abbrev cR (i : Fin 8192) := cRow (yIn m c) (hIn m c) (aE m c) (aF m c) (aW m c) (aG m c) (aH m c) i
abbrev oR (i : Fin 8192) := oRow (yIn m c) (hIn m c) (aE m c) (aF m c) (aW m c) (aG m c) (aH m c) i

/-- The blocks of the residual sum's cotangent, of the projection's, of the weight's halves and of the attention half's. -/
abbrev hblk : Vec Ideal S512x1024 .f32 := k0_pay6 (iblk m c 1 t) (iblk m c 0 t) (iblk m c 3 t) (iblk m c 4 t)
abbrev yblk : Vec Ideal S512x1024 .bf16 := k0_pay10 (hblk m c t) (iblk m c 2 t) (iblk m c 5 t)
abbrev w0 : Vec Ideal S512x1024 .bf16 := View.ld (iblk m c 6 t) (Rect.unit ![0, 0] ![512, 1024] inb_S1024x1024_S512x1024_0_0)
abbrev w1 : Vec Ideal S512x1024 .bf16 := View.ld (iblk m c 6 t) (Rect.unit ![512, 0] ![512, 1024] inb_S1024x1024_S512x1024_512_0)
abbrev oblk : Vec Ideal S512x512 .f32 := k0_pay13 (yblk m c t) (w1 m c t)

theorem hblk_eq (a : Fin 512) (b : Fin 1024) : hblk m c t (ix2 a b) = hR m c (row t a) b := by
  refine (pay6 (iblk m c 1 t) (iblk m c 0 t) (iblk m c 3 t) (iblk m c 4 t) a b).trans ?_
  unfold hR hRow
  rw [funext (fun k => in0 m c t a (row t a) rfl k), funext (fun k => in1 m c t a (row t a) rfl k), in3 m c t a (row t a) rfl b,
    funext (fun k => in4 m c t (ix2 0 k))]

theorem yblk_eq (a : Fin 512) (b : Fin 1024) : yblk m c t (ix2 a b) = yR m c (row t a) b := by
  refine (pay10 (iblk m c 2 t) (hblk m c t) (iblk m c 5 t) a b).trans ?_
  unfold yR yRow
  rw [funext (fun k => hblk_eq m c t a k), funext (fun k => in2 m c t a (row t a) rfl k), funext (fun k => in5 m c t (ix2 0 k))]

theorem cblk_eq (a b : Fin 512) : k0_pay12 (yblk m c t) (w0 m c t) (ix2 a b) = cR m c (row t a) ⟨b.val, by omega⟩ := by
  refine (pay12 (yblk m c t) (iblk m c 6 t) a b).trans ?_
  unfold cR cRow
  exact Finset.sum_congr rfl fun k _ => congrArg₂ (fun x y : EReal => x * y) (yblk_eq m c t a k) (in6 m c t _)

theorem oblk_eq (a b : Fin 512) : oblk m c t (ix2 a b) = oR m c (row t a) b := by
  refine (pay13 (yblk m c t) (iblk m c 6 t) a b).trans ?_
  unfold oR oRow cRow
  exact Finset.sum_congr rfl fun k _ => congrArg₂ (fun x y : EReal => x * y) (yblk_eq m c t a k) (in6 m c t _)

/-- A pair's part of the cotangent of the attention's output, and of the gradient of its gain. -/
theorem back_lanes (q : Fin 4) (a : Fin 512) (b : Fin 128) (o D : Vec Ideal S512x128 .f32) (A : Vec Ideal S1x128 .f32)
    (ho : r128 o a = lanes q fun s => (iblk m c 7 t : Vec Ideal S512x512 .f32) (ix2 a s)) (hD : r128 D a = lanes q fun s => oblk m c t (ix2 a s))
    (hA : g128 A = lanes q fun s => (iblk m c 8 t : Vec Ideal S1x512 .f32) (ix2 0 s)) :
    laneBack (r128 o a) (r128 D a) (g128 A) b
      = headBack (fun s => aO m c (ix2 (row t a) s)) (oR m c (row t a)) (fun s => aA m c (ix2 0 s)) ⟨128 * q.val + b.val, by omega⟩ := by
  rw [ho, hD, hA, laneBack_eq, funext (fun k => in7 m c t a (row t a) rfl k), funext (fun k => oblk_eq m c t a k),
    funext (fun k => in8 m c t (ix2 0 k))]

/-- What group `t` adds to the three gradients of gains. -/
def g2Term (j : S1x1024.Idx) : EReal := ∑ k : Fin 512, rowOf (aF m c) (row t k) (j 1) * rowOf (hIn m c) (row t k) (j 1) * factor (rowOf (hIn m c) (row t k))
def g1Term (j : S1x1024.Idx) : EReal := ∑ k : Fin 512, hR m c (row t k) (j 1) * rowOf (yIn m c) (row t k) (j 1) * factor (rowOf (yIn m c) (row t k))
def gaTerm (j : S1x512.Idx) : EReal :=
  ∑ k : Fin 512, oR m c (row t k) (j 1) * aO m c (ix2 (row t k) (j 1)) * headFactor (fun s => aO m c (ix2 (row t k) s)) (j 1)

theorem gain_lanes (q : Fin 4) (b : Fin 128) (o D : Vec Ideal S512x128 .f32)
    (ho : ∀ a, r128 o a = lanes q fun s => (iblk m c 7 t : Vec Ideal S512x512 .f32) (ix2 a s))
    (hD : ∀ a, r128 D a = lanes q fun s => oblk m c t (ix2 a s)) :
    gainSum o D b = gaTerm m c t (ix2 0 ⟨128 * q.val + b.val, by omega⟩) := by
  unfold gainSum gaTerm
  refine Finset.sum_congr rfl fun k _ => ?_
  rw [ho, hD, laneFactor_eq, funext (fun s => in7 m c t k (row t k) rfl s), funext (fun s => oblk_eq m c t k s)]
  rfl

theorem point13 (acc : Vec Ideal S1x1024 .f32) (j : S1x1024.Idx) :
    k0_pay7 (iblk m c 1 t) (iblk m c 0 t) acc j = (acc j : EReal) + g2Term m c t j := by
  refine (pay7 (iblk m c 1 t) (iblk m c 0 t) acc j).trans ?_
  refine congrArg (fun x : EReal => (acc j : EReal) + x) (Finset.sum_congr rfl fun k _ => ?_)
  refine congrArg₂ (fun x y : EReal => x * y) (congrArg₂ (fun x y : EReal => x * y) (in0 m c t k (row t k) rfl (j 1)) (in1 m c t k (row t k) rfl (j 1))) ?_
  exact (pay5 (iblk m c 1 t) k).trans (congrArg factor (funext fun s => in1 m c t k (row t k) rfl s))

theorem point14 (acc : Vec Ideal S1x1024 .f32) (j : S1x1024.Idx) :
    k0_pay11 (hblk m c t) (iblk m c 2 t) acc j = (acc j : EReal) + g1Term m c t j := by
  refine (pay11 (iblk m c 2 t) (hblk m c t) acc j).trans ?_
  refine congrArg (fun x : EReal => (acc j : EReal) + x) (Finset.sum_congr rfl fun k _ => ?_)
  refine congrArg₂ (fun x y : EReal => x * y) (congrArg₂ (fun x y : EReal => x * y) (hblk_eq m c t k (j 1)) (in2 m c t k (row t k) rfl (j 1))) ?_
  exact (pay9 (iblk m c 2 t) k).trans (congrArg factor (funext fun s => in2 m c t k (row t k) rfl s))

theorem point9 (j : S512x1024.Idx) : hblk m c t j = hA (hIn m c) (aE m c) (aF m c) (aH m c) (ix2 (row t (j 0)) (j 1)) := by
  obtain ⟨a, b, rfl⟩ : ∃ a b, j = ix2 a b := ⟨j 0, j 1, Cert.Stores.idx2_ext rfl rfl⟩
  exact hblk_eq m c t a b

theorem point10 (j : S512x1024.Idx) :
    yblk m c t j = yA (yIn m c) (hIn m c) (aE m c) (aF m c) (aG m c) (aH m c) (ix2 (row t (j 0)) (j 1)) := by
  obtain ⟨a, b, rfl⟩ : ∃ a b, j = ix2 a b := ⟨j 0, j 1, Cert.Stores.idx2_ext rfl rfl⟩
  exact yblk_eq m c t a b

theorem point11 (j : S512x512.Idx) : k0_pay12 (yblk m c t) (w0 m c t) j
    = coA (yIn m c) (hIn m c) (aE m c) (aF m c) (aW m c) (aG m c) (aH m c) (ix2 (row t (j 0)) (j 1)) := by
  obtain ⟨a, b, rfl⟩ : ∃ a b, j = ix2 a b := ⟨j 0, j 1, Cert.Stores.idx2_ext rfl rfl⟩
  exact cblk_eq m c t a b

theorem first (j) : (outsAt0 m c t.val t.isLt).1 j = hA (hIn m c) (aE m c) (aF m c) (aH m c) (ix2 (row t (j 0)) (j 1)) := by
  by_cases h : t.val % 16 = 0
  · rw [outsAt0_A m c t h]; frame_out; exact point9 m c t j
  · rw [outsAt0_B m c t h]; frame_out; exact point9 m c t j

theorem second (j) : (outsAt0 m c t.val t.isLt).2.1 j
    = yA (yIn m c) (hIn m c) (aE m c) (aF m c) (aG m c) (aH m c) (ix2 (row t (j 0)) (j 1)) := by
  by_cases h : t.val % 16 = 0
  · rw [outsAt0_A m c t h]; frame_out; exact point10 m c t j
  · rw [outsAt0_B m c t h]; frame_out; exact point10 m c t j

theorem third (j) : (outsAt0 m c t.val t.isLt).2.2.1 j
    = coA (yIn m c) (hIn m c) (aE m c) (aF m c) (aW m c) (aG m c) (aH m c) (ix2 (row t (j 0)) (j 1)) := by
  by_cases h : t.val % 16 = 0
  · rw [outsAt0_A m c t h]; frame_out; exact point11 m c t j
  · rw [outsAt0_B m c t h]; frame_out; exact point11 m c t j

/-- Where a pair's piece lies in a row block and in a row. -/
theorem emb_block (q : Fin 4) (inb) (a : Fin 512) (b : Fin 128) : (Rect.unit (s := S512x512) ![0, 128 * q.val] ![512, 128] inb).emb (ix2 a b)
    = ix2 a ⟨128 * q.val + b.val, by omega⟩ :=
  Cert.Stores.idx2_ext (Fin.ext (show 0 + 1 * a.val = a.val by omega)) (Fin.ext (show 128 * q.val + 1 * b.val = 128 * q.val + b.val by omega))
theorem emb_gain (q : Fin 4) (inb) (a : Fin 1) (b : Fin 128) : (Rect.unit (s := S1x512) ![0, 128 * q.val] ![1, 128] inb).emb (ix2 a b)
    = ix2 0 ⟨128 * q.val + b.val, by omega⟩ :=
  Cert.Stores.idx2_ext (Fin.ext (show 0 + 1 * a.val = 0 by omega)) (Fin.ext (show 128 * q.val + 1 * b.val = 128 * q.val + b.val by omega))

/-- The cotangent of the attention's output at point `t`, in the block's own coordinates. -/
def dAt (j : S512x512.Idx) : EReal :=
  doA (yIn m c) (hIn m c) (aE m c) (aF m c) (aW m c) (aO m c) (aA m c) (aG m c) (aH m c) (ix2 (row t (j 0)) (j 1))

/-- A pair's piece of it. -/
theorem dAt_piece (q : Fin 4) (inb) (p o D : Vec Ideal S512x128 .f32) (A : Vec Ideal S1x128 .f32)
    (hp : ∀ a b, p (ix2 a b) = laneBack (r128 o a) (r128 D a) (g128 A) b)
    (ho : ∀ a, r128 o a = lanes q fun s => (iblk m c 7 t : Vec Ideal S512x512 .f32) (ix2 a s)) (hD : ∀ a, r128 D a = lanes q fun s => oblk m c t (ix2 a s))
    (hA : g128 A = lanes q fun s => (iblk m c 8 t : Vec Ideal S1x512 .f32) (ix2 0 s)) (x : S512x128.Idx) :
    p x = dAt m c t ((Rect.unit (s := S512x512) ![0, 128 * q.val] ![512, 128] inb).emb x) := by
  obtain ⟨a, b, rfl⟩ : ∃ a b, x = ix2 a b := ⟨x 0, x 1, Cert.Stores.idx2_ext rfl rfl⟩
  rw [emb_block q inb a b]
  exact (hp a b).trans (back_lanes m c t q a b o D A (ho a) (hD a) hA)

/-- A pair's piece of the gradient of the gain, over what was there. -/
theorem gain_piece (q : Fin 4) (inb) (p : Vec Ideal S1x128 .f32) (o D : Vec Ideal S512x128 .f32) (acc : Vec Ideal S1x512 .f32)
    (hp : ∀ b, p (ix2 0 b) = View.ld acc (Rect.unit (s := S1x512) ![0, 128 * q.val] ![1, 128] inb) (ix2 (0 : Fin 1) b) + gainSum o D b)
    (ho : ∀ a, r128 o a = lanes q fun s => (iblk m c 7 t : Vec Ideal S512x512 .f32) (ix2 a s))
    (hD : ∀ a, r128 D a = lanes q fun s => oblk m c t (ix2 a s)) (x : S1x128.Idx) :
    p x = (acc ((Rect.unit (s := S1x512) ![0, 128 * q.val] ![1, 128] inb).emb x) : EReal)
      + gaTerm m c t ((Rect.unit (s := S1x512) ![0, 128 * q.val] ![1, 128] inb).emb x) := by
  obtain ⟨a, b, rfl⟩ : ∃ a b, x = ix2 a b := ⟨x 0, x 1, Cert.Stores.idx2_ext rfl rfl⟩
  obtain rfl : a = 0 := Fin.ext (by omega)
  refine (hp b).trans (congrArg₂ (fun x y : EReal => x + y) rfl ?_)
  rw [emb_gain q inb 0 b]
  exact gain_lanes m c t q b o D ho hD

theorem fourth (j) : (outsAt0 m c t.val t.isLt).2.2.2.1 j
    = doA (yIn m c) (hIn m c) (aE m c) (aF m c) (aW m c) (aO m c) (aA m c) (aG m c) (aH m c) (ix2 (row t (j 0)) (j 1)) := by
  by_cases h : t.val % 16 = 0
  · rw [outsAt0_A m c t h]; frame_out
    exact View.canon_append_of_piecesOf (Val := Elt Ideal) (e := .bf16) (dAt m c t) [] [_, _, _, _]
      ⟨dAt_piece m c t 3 inb_S512x512_S512x128_0_384 _ _ _ _ (pay40 _ _ _) (laneO3 _) (laneD3 _) (laneG3 _), dAt_piece m c t 2 inb_S512x512_S512x128_0_256 _ _ _ _ (pay36 _ _ _) (laneO2 _) (laneD2 _) (laneG2 _),
        dAt_piece m c t 1 inb_S512x512_S512x128_0_128 _ _ _ _ (pay29 _ _ _) (laneO1 _) (laneD1 _) (laneG1 _), dAt_piece m c t 0 inb_S512x512_S512x128_0_0 _ _ _ _ (pay21 _ _ _) (laneO0 _) (laneD0 _ _) (laneG0 _), trivial⟩ j
      (View.cover_of_tiledBy _ ![512, 128] (by sl_kernel_rfl) _)
  · rw [outsAt0_B m c t h]; frame_out
    exact View.canon_append_of_piecesOf (Val := Elt Ideal) (e := .bf16) (dAt m c t) [] [_, _, _, _]
      ⟨dAt_piece m c t 3 inb_S512x512_S512x128_0_384 _ _ _ _ (pay40 _ _ _) (laneO3 _) (laneD3 _) (laneG3 _), dAt_piece m c t 2 inb_S512x512_S512x128_0_256 _ _ _ _ (pay36 _ _ _) (laneO2 _) (laneD2 _) (laneG2 _),
        dAt_piece m c t 1 inb_S512x512_S512x128_0_128 _ _ _ _ (pay29 _ _ _) (laneO1 _) (laneD1 _) (laneG1 _), dAt_piece m c t 0 inb_S512x512_S512x128_0_0 _ _ _ _ (pay21 _ _ _) (laneO0 _) (laneD0 _ _) (laneG0 _), trivial⟩ j
      (View.cover_of_tiledBy _ ![512, 128] (by sl_kernel_rfl) _)

theorem gaA0 (h : t.val % 16 = 0) (j) : (outsAt0 m c t.val t.isLt).2.2.2.2.2.2 j = (0 : EReal) + gaTerm m c t j := by
  rw [outsAt0_A m c t h]; frame_out
  simp (disch := decide) only [↓View.readCov_skip, View.readCov_fill]
  rw [← pay3 j]
  exact View.canon_append_of_piecesOf (Val := Elt Ideal) (e := .f32) (fun j => (k0_pay3 (F := Ideal) j : EReal) + gaTerm m c t j) [_] [_, _, _, _]
    ⟨gain_piece m c t 3 inb_S1x512_S1x128_0_384 _ _ _ (k0_pay3 (F := Ideal)) (pay41 _ _ _) (laneO3 _) (laneD3 _), gain_piece m c t 2 inb_S1x512_S1x128_0_256 _ _ _ (k0_pay3 (F := Ideal)) (pay37 _ _ _) (laneO2 _) (laneD2 _),
      gain_piece m c t 1 inb_S1x512_S1x128_0_128 _ _ _ (k0_pay3 (F := Ideal)) (pay30 _ _ _) (laneO1 _) (laneD1 _), gain_piece m c t 0 inb_S1x512_S1x128_0_0 _ _ _ (k0_pay3 (F := Ideal)) (pay22 _ _ _) (laneO0 _) (laneD0 _ _), trivial⟩ j
    (View.cover_of_tiledBy _ ![1, 128] (by sl_kernel_rfl) _)

theorem gaB (h : ¬t.val % 16 = 0) (j) : (outsAt0 m c t.val t.isLt).2.2.2.2.2.2 j
    = ((outsAt0 m c (t.val - 1) (Nat.lt_of_le_of_lt (Nat.sub_le _ _) t.isLt)).2.2.2.2.2.2 j : EReal) + gaTerm m c t j := by
  rw [outsAt0_B m c t h]; frame_out
  exact View.canon_append_of_piecesOf (Val := Elt Ideal) (e := .f32)
    (fun j => ((outsAt0 m c (t.val - 1) (Nat.lt_of_le_of_lt (Nat.sub_le _ _) t.isLt)).2.2.2.2.2.2 j : EReal) + gaTerm m c t j) [] [_, _, _, _]
    ⟨gain_piece m c t 3 inb_S1x512_S1x128_0_384 _ _ _ _ (pay41 _ _ _) (laneO3 _) (laneD3 _), gain_piece m c t 2 inb_S1x512_S1x128_0_256 _ _ _ _ (pay37 _ _ _) (laneO2 _) (laneD2 _),
      gain_piece m c t 1 inb_S1x512_S1x128_0_128 _ _ _ _ (pay30 _ _ _) (laneO1 _) (laneD1 _), gain_piece m c t 0 inb_S1x512_S1x128_0_0 _ _ _ _ (pay22 _ _ _) (laneO0 _) (laneD0 _ _), trivial⟩ j
    (View.cover_of_tiledBy _ ![1, 128] (by sl_kernel_rfl) _)

theorem g2A0 (h : t.val % 16 = 0) (j) : (outsAt0 m c t.val t.isLt).2.2.2.2.1 j = (0 : EReal) + g2Term m c t j := by
  rw [outsAt0_A m c t h]; frame_out
  rw [← pay1 j]; exact point13 m c t _ j

theorem g2B (h : ¬t.val % 16 = 0) (j) : (outsAt0 m c t.val t.isLt).2.2.2.2.1 j
    = ((outsAt0 m c (t.val - 1) (Nat.lt_of_le_of_lt (Nat.sub_le _ _) t.isLt)).2.2.2.2.1 j : EReal) + g2Term m c t j := by
  rw [outsAt0_B m c t h]; frame_out; exact point13 m c t _ j

theorem g1A0 (h : t.val % 16 = 0) (j) : (outsAt0 m c t.val t.isLt).2.2.2.2.2.1 j = (0 : EReal) + g1Term m c t j := by
  rw [outsAt0_A m c t h]; frame_out
  rw [← pay2 j]; exact point14 m c t _ j

theorem g1B (h : ¬t.val % 16 = 0) (j) : (outsAt0 m c t.val t.isLt).2.2.2.2.2.1 j
    = ((outsAt0 m c (t.val - 1) (Nat.lt_of_le_of_lt (Nat.sub_le _ _) t.isLt)).2.2.2.2.2.1 j : EReal) + g1Term m c t j := by
  rw [outsAt0_B m c t h]; frame_out; exact point14 m c t _ j

theorem out9 (y : S512x1024.Idx) (R : Fin 8192) (hR : R.val = t.val * 512 + (y 0).val) :
    ((View.whole main_v32_0).slice (win0_9.rect t)).emb y = ix2 R (y 1) := by
  blk_ext [idx t]
theorem out10 (y : S512x1024.Idx) (R : Fin 8192) (hR : R.val = t.val * 512 + (y 0).val) :
    ((View.whole main_v32_1).slice (win0_10.rect t)).emb y = ix2 R (y 1) := by
  blk_ext [idx t]
theorem out11 (y : S512x512.Idx) (R : Fin 8192) (hR : R.val = t.val * 512 + (y 0).val) :
    ((View.whole main_v32_2).slice (win0_11.rect t)).emb y = ix2 R (y 1) := by
  blk_ext [idx t]
theorem out12 (y : S512x512.Idx) (R : Fin 8192) (hR : R.val = t.val * 512 + (y 0).val) :
    ((View.whole main_v32_3).slice (win0_12.rect t)).emb y = ix2 R (y 1) := by
  blk_ext [idx t]

end Blocks

theorem final9 (c : Dev nD) : (dats m 0 c).arrAt 9 (cfgs 0).N = hA (hIn m c) (aE m c) (aF m c) (aH m c) := by
  refine (dats m 0 c).arrAt_eq_of_covers 9 _ (by decide +kernel) fun t _ y => ?_
  blk_simp
  rw [after0_9, first, out9 t y (row t (y 0)) rfl]
  rfl

theorem final10 (c : Dev nD) : (dats m 0 c).arrAt 10 (cfgs 0).N = yA (yIn m c) (hIn m c) (aE m c) (aF m c) (aG m c) (aH m c) := by
  refine (dats m 0 c).arrAt_eq_of_covers 10 _ (by decide +kernel) fun t _ y => ?_
  blk_simp
  rw [after0_10, second, out10 t y (row t (y 0)) rfl]
  rfl

theorem final11 (c : Dev nD) : (dats m 0 c).arrAt 11 (cfgs 0).N
    = coA (yIn m c) (hIn m c) (aE m c) (aF m c) (aW m c) (aG m c) (aH m c) := by
  refine (dats m 0 c).arrAt_eq_of_covers 11 _ (by decide +kernel) fun t _ y => ?_
  blk_simp
  rw [after0_11, third, out11 t y (row t (y 0)) rfl]
  rfl

theorem final12 (c : Dev nD) : (dats m 0 c).arrAt 12 (cfgs 0).N
    = doA (yIn m c) (hIn m c) (aE m c) (aF m c) (aW m c) (aO m c) (aA m c) (aG m c) (aH m c) := by
  refine (dats m 0 c).arrAt_eq_of_covers 12 _ (by decide +kernel) fun t _ y => ?_
  blk_simp
  rw [after0_12, fourth, out12 t y (row t (y 0)) rfl]
  rfl

theorem final13 (c : Dev nD) : (dats m 0 c).arrAt 13 (cfgs 0).N = g2A (hIn m c) (aF m c) := by
  refine (dats m 0 c).arrAt_eq_of_after_last 13 t0_15 (by decide +kernel) _ fun j => ?_
  blk_simp
  rw [after0_13, Pipeline.eq_sum_fin_of_reset_step_apply_last (fun n h => (outsAt0 m c n h).2.2.2.2.1) 16 (fun _ => 0) (g2Term m c)
    (fun t h j => g2A0 m c t h j) (fun t h j => g2B m c t h j) (le_of_eq N_0) t0_15 rfl j, zero_add]
  unfold g2A g2Term
  exact Fin.sum_mul_add_congr fun t k hl => rfl

theorem final14 (c : Dev nD) : (dats m 0 c).arrAt 14 (cfgs 0).N = g1A (yIn m c) (hIn m c) (aE m c) (aF m c) (aH m c) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0) (g1Term m c)
    (fun t h j => g1A0 m c t h j) (fun t h j => g1B m c t h j) (le_of_eq N_0) t0_15 rfl j, zero_add]
  unfold g1A g1Term
  exact Fin.sum_mul_add_congr fun t k hl => rfl

theorem final15 (c : Dev nD) : (dats m 0 c).arrAt 15 (cfgs 0).N
    = gaA (yIn m c) (hIn m c) (aE m c) (aF m c) (aW m c) (aO m c) (aG m c) (aH m c) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0) (gaTerm m c)
    (fun t h j => gaA0 m c t h j) (fun t h j => gaB m c t h j) (le_of_eq N_0) t0_15 rfl j, zero_add]
  unfold gaA gaTerm
  exact Fin.sum_mul_add_congr fun t k hl => rfl

section Reference

open Cert.Reference6Ideal.Read

variable (P : Part) (O : Heads) (W : Weight) (X : Rows) (A : Narrow) (G1 G2 : Gain) (E F : Rows)

/-- The reference's projection and residual sum. -/
abbrev rY : Rows := val_main_v21 (F := Ideal) P O W A
abbrev rH : Rows := val_main_v37 (F := Ideal) P O W X A G1

theorem ref44 (i : Fin 8192) : val_main_v44 (F := Ideal) P O W X A G1 (ix2 i 0) = mean (rowOf (rH P O W X A G1) i) := by
  pointwise [val_main_v44, val_main_v43, val_main_v42, val_main_v41, val_main_v40, val_main_v39, val_main_v38,
    val_main_cst_7, val_main_cst_8, val_main_cst_9, mean]

theorem ref45 (i : Fin 8192) : val_main_v45 (F := Ideal) P O W X A G1 (ix2 i 0) = factor (rowOf (rH P O W X A G1) i) := by
  rw [val_main_v45_apply, ref44]; rfl

theorem ref67 (i : Fin 8192) : val_main_v67 (F := Ideal) P O W X A G1 G2 F (ix1 i)
    = flow (rowOf (rH P O W X A G1) i) (rowOf F i) (gainOf G2) := by
  unfold flow
  rw [← ref45, ← ref44]
  pointwise [val_main_v67, val_main_v66, val_main_v65, val_main_v64, val_main_v60, val_main_v59, val_main_v58, val_main_v57, val_main_v56,
    val_main_v48, val_main_v47, val_main_v46, val_main_cst_10, val_main_cst_12, val_main_cst_13, val_main_cst_14]
  have one : ∀ f : Fin 1 → EReal, ∑ x, f x = f 0 := fun f => Fin.sum_univ_one f
  rw [one]

theorem ref73 (i : Fin 8192) (j : Fin 1024) : val_main_v73 (F := Ideal) P O W X A G1 G2 E F (ix2 i j)
    = hRow (rH P O W X A G1) E F G2 i j := by
  pointwise [val_main_v73, val_main_v72, val_main_v71, val_main_v70, val_main_v69, val_main_v68, val_main_v63, val_main_v62, val_main_v61,
    val_main_v57, val_main_v56]
  rw [ref67, ref45]
  exact (Cert.Norms.back_eq (rowOf (rH P O W X A G1) i) (rowOf F i) (gainOf G2) j (E (ix2 i j))).symm

theorem ref28 (i : Fin 8192) : val_main_v28 (F := Ideal) P O W A (ix2 i 0) = mean (rowOf (rY P O W A) i) := by
  pointwise [val_main_v28, val_main_v27, val_main_v26, val_main_v25, val_main_v24, val_main_v23, val_main_v22,
    val_main_cst_3, val_main_cst_4, val_main_cst_5, mean]

theorem ref29 (i : Fin 8192) : val_main_v29 (F := Ideal) P O W A (ix2 i 0) = factor (rowOf (rY P O W A) i) := by
  rw [val_main_v29_apply, ref28]; rfl

theorem ref87 (i : Fin 8192) : val_main_v87 (F := Ideal) P O W X A G1 G2 E F (ix1 i)
    = flow (rowOf (rY P O W A) i) (hRow (rH P O W X A G1) E F G2 i) (gainOf G1) := by
  unfold flow
  rw [← ref29, ← ref28]
  simp only [← ref73]
  pointwise [val_main_v87, val_main_v86, val_main_v85, val_main_v84, val_main_v81, val_main_v80, val_main_v79, val_main_v78, val_main_v77,
    val_main_v32, val_main_v31, val_main_v30, val_main_cst_6, val_main_cst_16, val_main_cst_17, val_main_cst_18]
  have one : ∀ f : Fin 1 → EReal, ∑ x, f x = f 0 := fun f => Fin.sum_univ_one f
  rw [one]

theorem ref92 (i : Fin 8192) (j : Fin 1024) : val_main_v92 (F := Ideal) P O W X A G1 G2 E F (ix2 i j)
    = yRow (rY P O W A) (rH P O W X A G1) E F G1 G2 i j := by
  pointwise [val_main_v92, val_main_v91, val_main_v90, val_main_v89, val_main_v88, val_main_v83, val_main_v82, val_main_v78, val_main_v77]
  rw [ref87, ref29, ref73]
  have e := Cert.Norms.back_eq (rowOf (rY P O W A) i) (hRow (rH P O W X A G1) E F G2 i) (gainOf G1) j 0
  rw [zero_add, zero_add] at e
  exact e.symm

theorem ref93 (i : Fin 8192) (s : Fin 1024) : val_main_v93 (F := Ideal) P O W X A G1 G2 E F (ix2 i s)
    = cRow (rY P O W A) (rH P O W X A G1) E F W G1 G2 i s := by
  rw [val_main_v93_apply]
  unfold cRow
  refine Finset.sum_congr rfl fun k _ => ?_
  rw [show lidx_main_v93 (ix2 i s) k = ix2 i k from Cert.Stores.idx2_ext rfl rfl, ref92]
  refine congrArg₂ (fun x y : EReal => x * y) rfl ?_
  exact (congrArg W (Cert.Stores.idx2_ext rfl rfl) : W (ridx_main_v93 (ix2 i s) k) = W (ix2 s k))

theorem ref94 : val_main_v94 (F := Ideal) P O W X A G1 G2 E F = coA (rY P O W A) (rH P O W X A G1) E F W G1 G2 := by
  funext j
  obtain ⟨a, b, rfl⟩ : ∃ a b, j = ix2 a b := ⟨j 0, j 1, Cert.Stores.idx2_ext rfl rfl⟩
  refine Eq.trans ?_ (ref93 P O W X A G1 G2 E F a ⟨b.val, by omega⟩)
  pointwise [val_main_v94]

theorem ref95 (i : Fin 8192) (s : Fin 512) : val_main_v95 (F := Ideal) P O W X A G1 G2 E F (ix2 i s)
    = oRow (rY P O W A) (rH P O W X A G1) E F W G1 G2 i s := by
  refine Eq.trans ?_ (ref93 P O W X A G1 G2 E F i ⟨512 + s.val, by omega⟩)
  pointwise [val_main_v95]

theorem ref73A : val_main_v73 (F := Ideal) P O W X A G1 G2 E F = hA (rH P O W X A G1) E F G2 := by
  funext j
  obtain ⟨a, b, rfl⟩ : ∃ a b, j = ix2 a b := ⟨j 0, j 1, Cert.Stores.idx2_ext rfl rfl⟩
  exact ref73 P O W X A G1 G2 E F a b

theorem ref72A : val_main_v72 (F := Ideal) P O W X A G1 G2 E F = hA (rH P O W X A G1) E F G2 := by
  rw [← ref73A]
  funext j
  obtain ⟨a, b, rfl⟩ : ∃ a b, j = ix2 a b := ⟨j 0, j 1, Cert.Stores.idx2_ext rfl rfl⟩
  rw [val_main_v73_apply]
  exact congrArg _ (Cert.Stores.idx2_ext (Fin.ext (show a.val = (a.val * 1024 + b.val) / 1024 by omega))
    (Fin.ext (show b.val = (a.val * 1024 + b.val) % 1024 by omega)))

theorem ref118 : val_main_v118 (F := Ideal) P O W X A G1 G2 E F = yA (rY P O W A) (rH P O W X A G1) E F G1 G2 := by
  funext j
  obtain ⟨a, b, rfl⟩ : ∃ a b, j = ix2 a b := ⟨j 0, j 1, Cert.Stores.idx2_ext rfl rfl⟩
  exact ref92 P O W X A G1 G2 E F a b

theorem ref55 : val_main_v55 (F := Ideal) P O W X A G1 F = g2A (rH P O W X A G1) F := by
  funext j
  obtain ⟨a, b, rfl⟩ : ∃ a b, j = ix2 a b := ⟨j 0, j 1, Cert.Stores.idx2_ext rfl rfl⟩
  pointwise [val_main_v55, val_main_v54, val_main_v53, val_main_v50, val_main_v49, val_main_cst_11]
  refine Finset.sum_congr rfl fun k _ => ?_
  rw [ref45, mul_comm, ← mul_assoc]
  rfl

theorem ref76 : val_main_v76 (F := Ideal) P O W X A G1 G2 E F = g1A (rY P O W A) (rH P O W X A G1) E F G2 := by
  funext j
  obtain ⟨a, b, rfl⟩ : ∃ a b, j = ix2 a b := ⟨j 0, j 1, Cert.Stores.idx2_ext rfl rfl⟩
  pointwise [val_main_v76, val_main_v75, val_main_v74, val_main_v34, val_main_v33, val_main_cst_15]
  refine Finset.sum_congr rfl fun k _ => ?_
  rw [ref29, ref73, mul_comm, ← mul_assoc]
  rfl

/-- The column of a head's entry. -/
abbrev col (h : Fin 8) (e : Fin 64) : Fin 512 := ⟨h.val * 64 + e.val, by omega⟩

theorem headSum_at (f : Fin 512 → EReal) (h : Fin 8) (e : Fin 64) : headSum f (col h e) = ∑ k : Fin 64, f (col h k) := by
  unfold headSum
  exact Finset.sum_congr rfl fun k _ => congrArg f (Fin.ext (show 64 * ((h.val * 64 + e.val) / 64) + k.val = h.val * 64 + k.val by omega))

theorem ref2 (i : Fin 8192) (h : Fin 8) (e : Fin 64) : val_main_v2 (F := Ideal) O (ix3 i h e) = O (ix2 i (col h e)) := by
  pointwise [val_main_v2]

theorem ref3 (h : Fin 8) (e : Fin 64) : val_main_v3 (F := Ideal) A (ix3 0 h e) = A (ix2 0 (col h e)) := by
  pointwise [val_main_v3]

theorem ref10 (i : Fin 8192) (h : Fin 8) (e : Fin 64) : val_main_v10 (F := Ideal) O (ix3 i h 0) = headMean (fun s => O (ix2 i s)) (col h e) := by
  unfold headMean
  rw [headSum_at]
  simp only [← ref2]
  pointwise [val_main_v10, val_main_v9, val_main_v8, val_main_v7, val_main_v6, val_main_v5, val_main_v4, val_main_cst, val_main_cst_0, val_main_cst_1]

theorem ref11 (i : Fin 8192) (h : Fin 8) (e : Fin 64) : val_main_v11 (F := Ideal) O (ix3 i h 0) = headFactor (fun s => O (ix2 i s)) (col h e) := by
  rw [val_main_v11_apply, ref10 O i h e]; rfl

theorem ref96 (i : Fin 8192) (h : Fin 8) (e : Fin 64) : val_main_v96 (F := Ideal) P O W X A G1 G2 E F (ix3 i h e)
    = oRow (rY P O W A) (rH P O W X A G1) E F W G1 G2 i (col h e) := by
  rw [← ref95]
  pointwise [val_main_v96]

/-- The cotangents of a row of the attention half, and its values, as the reference arranges them by heads. -/
abbrev rD (i : Fin 8192) : Fin 512 → EReal := oRow (rY P O W A) (rH P O W X A G1) E F W G1 G2 i
abbrev oOf (i : Fin 8192) : Fin 512 → EReal := fun s => O (ix2 i s)
abbrev aOf : Fin 512 → EReal := fun s => A (ix2 0 s)

/-- What flows back through a head's mean of squares. -/
def headFlow (x d g : Fin 512 → EReal) (p : Fin 512) : EReal :=
  Ideal.div (headSum (fun s => x s * (d s * g s)) p * (Ideal.ofBits .f32 0xBF000000#32 * Ideal.div (headFactor x p) (headMean x p)))
    (Ideal.ofBits .f32 0x42800000#32)

theorem headBack_eq (x d g : Fin 512 → EReal) (p : Fin 512) :
    headBack x d g p = d p * g p * headFactor x p + x p * headFlow x d g p + headFlow x d g p * x p := by
  have hv := Cert.Norms.mean_pos (n := 64) (by norm_num) (headSum (fun s => x s * x s) p) (Finset.sum_nonneg fun k _ => Cert.Norms.sq_nonneg _)
  have e := Cert.Norms.rms_grad (n := 64) (by norm_num) _ hv 0 (d p * g p) (x p) (headSum (fun s => d s * g s * x s) p)
  rw [← Cert.Norms.word_64, ← Cert.Norms.word_neg_half, zero_add, zero_add] at e
  have e' : headSum (fun s => x s * (d s * g s)) p = headSum (fun s => d s * g s * x s) p := Finset.sum_congr rfl fun k _ => mul_comm _ _
  unfold headFlow
  rw [e']
  exact e

theorem ref110 (i : Fin 8192) (h : Fin 8) (e : Fin 64) : val_main_v110 (F := Ideal) P O W X A G1 G2 E F (ix2 i h)
    = headFlow (oOf O i) (rD P O W X A G1 G2 E F i) (aOf A) (col h e) := by
  unfold headFlow
  rw [headSum_at, ← ref11 O i h e, ← ref10 O i h e]
  simp only [rD, aOf, oOf, ← ref96, ← ref3, ← ref2]
  pointwise [val_main_v110, val_main_v109, val_main_v108, val_main_v107, val_main_v104, val_main_v103, val_main_v102, val_main_v101,
    val_main_v100, val_main_v14, val_main_v13, val_main_v12, val_main_cst_2, val_main_cst_20, val_main_cst_21, val_main_cst_22]
  have one : ∀ f : Fin 1 → EReal, ∑ x, f x = f 0 := fun f => Fin.sum_univ_one f
  rw [one]

theorem ref115 (i : Fin 8192) (h : Fin 8) (e : Fin 64) : val_main_v115 (F := Ideal) P O W X A G1 G2 E F (ix3 i h e)
    = headBack (oOf O i) (rD P O W X A G1 G2 E F i) (aOf A) (col h e) := by
  rw [headBack_eq, ← ref110]
  simp only [rD, aOf, oOf, ← ref96, ← ref3, ← ref2, ← ref11]
  pointwise [val_main_v115, val_main_v114, val_main_v113, val_main_v112, val_main_v111, val_main_v106, val_main_v105, val_main_v101, val_main_v100]

/-- The head and the entry of a column. -/
theorem col_of (p : Fin 512) : ∃ h e, p = col h e := ⟨⟨p.val / 64, by omega⟩, ⟨p.val % 64, by omega⟩, Fin.ext (show p.val = p.val / 64 * 64 + p.val % 64 by omega)⟩

/-! Head and entry of a column, read back from its number. -/

theorem col_head (h : Fin 8) (e : Fin 64) (hp) : (⟨(h.val * 64 + e.val) / 64, hp⟩ : Fin 8) = h := Fin.ext (show (h.val * 64 + e.val) / 64 = h.val by omega)
theorem col_entry (h : Fin 8) (e : Fin 64) (hp) : (⟨(h.val * 64 + e.val) % 64, hp⟩ : Fin 64) = e := Fin.ext (show (h.val * 64 + e.val) % 64 = e.val by omega)

theorem ref119 : val_main_v119 (F := Ideal) P O W X A G1 G2 E F = doA (rY P O W A) (rH P O W X A G1) E F W O A G1 G2 := by
  funext j
  obtain ⟨a, b, rfl⟩ : ∃ a b, j = ix2 a b := ⟨j 0, j 1, Cert.Stores.idx2_ext rfl rfl⟩
  obtain ⟨h, e, rfl⟩ := col_of b
  refine Eq.trans ?_ (ref115 P O W X A G1 G2 E F a h e)
  pointwise [val_main_v119, val_main_v117]
  rw [col_head, col_entry]

theorem ref116 : val_main_v116 (F := Ideal) P O W X A G1 G2 E F = gaA (rY P O W A) (rH P O W X A G1) E F W O G1 G2 := by
  funext j
  obtain ⟨a, b, rfl⟩ : ∃ a b, j = ix2 a b := ⟨j 0, j 1, Cert.Stores.idx2_ext rfl rfl⟩
  obtain ⟨h, e, rfl⟩ := col_of b
  have u : val_main_v116 (F := Ideal) P O W X A G1 G2 E F (ix2 a (col h e)) = ∑ k : Fin 8192,
      (val_main_v2 (F := Ideal) O (ix3 k h e) * val_main_v11 (F := Ideal) O (ix3 k h 0) * val_main_v96 (F := Ideal) P O W X A G1 G2 E F (ix3 k h e) : EReal) := by
    pointwise [val_main_v116, val_main_v99, val_main_v98, val_main_v97, val_main_v16, val_main_v15, val_main_cst_19]
    simp only [col_head, col_entry]
  rw [u]
  refine Finset.sum_congr rfl fun k _ => ?_
  rw [ref2, ref11 O k h e, ref96, mul_comm, ← mul_assoc]
  rfl

end Reference

/-- Kernel and reference end with the same seven arrays. -/
theorem algebraic : Cert.algebraic_Kernel6Ideal_Reference6Ideal := by
  intro m g m' g' _ hagree
  refine ⟨fun c => hA (hIn m c) (aE m c) (aF m c) (aH m c), fun c => yA (yIn m c) (hIn m c) (aE m c) (aF m c) (aG m c) (aH m c),
    fun c => coA (yIn m c) (hIn m c) (aE m c) (aF m c) (aW m c) (aG m c) (aH m c),
    fun c => doA (yIn m c) (hIn m c) (aE m c) (aF m c) (aW m c) (aO m c) (aA m c) (aG m c) (aH m c),
    fun c => g2A (hIn m c) (aF m c), fun c => g1A (yIn m c) (hIn m c) (aE m c) (aF m c) (aH m c),
    fun c => gaA (yIn m c) (hIn m c) (aE m c) (aF m c) (aW m c) (aO m c) (aG m c) (aH m c), ?_, ?_⟩
  · exact (θ_run _ _ _).mono (fun _ h c => by
      obtain ⟨h0, h1, h2, h3, h4, h5, h6, hk⟩ := h c
      exact ⟨h0.trans (final9 m c), h1.trans (final10 m c), h2.trans (final11 m c), h3.trans (final12 m c), h4.trans (final13 m c),
        h5.trans (final14 m c), h6.trans (final15 m c), hk⟩) (Value.run_blocks (F := Ideal) m g)
  · refine (θ_run _ _ _).mono (fun _ h c => ?_) (Cert.Reference6Ideal.Value.run (F := Ideal) m' g')
    obtain ⟨h0, h1, h2, h3, h4, h5, h6, hk⟩ := h c
    obtain ⟨e0, e1, e2, e3, e4, e5, e6, e7, e8⟩ :
        launchContents m' c (Proc.devRef .tc Cert.Reference6Ideal.main_arg0) = aP m c
        ∧ launchContents m' c (Proc.devRef .tc Cert.Reference6Ideal.main_arg1) = aO m c
        ∧ launchContents m' c (Proc.devRef .tc Cert.Reference6Ideal.main_arg2) = aW m c
        ∧ launchContents m' c (Proc.devRef .tc Cert.Reference6Ideal.main_arg3) = aX m c
        ∧ launchContents m' c (Proc.devRef .tc Cert.Reference6Ideal.main_arg4) = aA m c
        ∧ launchContents m' c (Proc.devRef .tc Cert.Reference6Ideal.main_arg5) = aG m c
        ∧ launchContents m' c (Proc.devRef .tc Cert.Reference6Ideal.main_arg6) = aH m c
        ∧ launchContents m' c (Proc.devRef .tc Cert.Reference6Ideal.main_arg7) = aE m c
        ∧ launchContents m' c (Proc.devRef .tc Cert.Reference6Ideal.main_arg8) = aF m c := hagree c
    have eY : yIn m c = rY (aP m c) (aO m c) (aW m c) (aA m c) := v18 m c
    have eH : hIn m c = rH (aP m c) (aO m c) (aW m c) (aX m c) (aA m c) (aG m c) := v31 m c
    rw [Cert.Reference6Ideal.Read.val_main_v72_eq, e0, e1, e2, e3, e4, e5, e6, e7, e8] at h0
    rw [Cert.Reference6Ideal.Read.val_main_v118_eq, e0, e1, e2, e3, e4, e5, e6, e7, e8] at h1
    rw [Cert.Reference6Ideal.Read.val_main_v94_eq, e0, e1, e2, e3, e4, e5, e6, e7, e8] at h2
    rw [Cert.Reference6Ideal.Read.val_main_v119_eq, e0, e1, e2, e3, e4, e5, e6, e7, e8] at h3
    rw [Cert.Reference6Ideal.Read.val_main_v55_eq, e0, e1, e2, e3, e4, e5, e8] at h4
    rw [Cert.Reference6Ideal.Read.val_main_v76_eq, e0, e1, e2, e3, e4, e5, e6, e7, e8] at h5
    rw [Cert.Reference6Ideal.Read.val_main_v116_eq, e0, e1, e2, e3, e4, e5, e6, e7, e8] at h6
    beta_reduce
    rewrite [eY, eH]
    exact ⟨h0.trans (ref72A _ _ _ _ _ _ _ _ _), h1.trans (ref118 _ _ _ _ _ _ _ _ _), h2.trans (ref94 _ _ _ _ _ _ _ _ _),
      h3.trans (ref119 _ _ _ _ _ _ _ _ _), h4.trans (ref55 _ _ _ _ _ _ _), h5.trans (ref76 _ _ _ _ _ _ _ _ _),
      h6.trans (ref116 _ _ _ _ _ _ _ _ _), hk⟩

end Cert.Kernel6Ideal.MixBwd

end
-- ==== Proof.OutProj.lean ====
module

public import proofs.«01_k».proof.Defs
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Stores
public import proofs.«01_k».proof.Proof.Norms

/-! # The output projection, the residual and the two norms round it

The kernel takes 512 rows at a time: the products of the two parts of the mixer's output with the two halves of the weight,
the norm of their sum, the residual, and the norm before the feed-forward block. -/

@[expose] public section

set_option maxRecDepth 16384

noncomputable section

namespace Cert.Kernel10Ideal.OutProj

open Cert.Kernel10Ideal Cert.Kernel10Ideal.Gen Idealize.ShloMosaic Idealize.ShloMosaic.TcCoe Idealize.SL.Sem
open Idealize.ShloMosaic.Pipeline (Dat)
open Cert.Norms (factor mean)

abbrev Part := (⟨S8192x512, .bf16⟩ : BufTy).Contents (Elt Ideal)
abbrev Weight := (⟨S1024x1024, .bf16⟩ : BufTy).Contents (Elt Ideal)
abbrev Rows := (⟨S8192x1024, .f32⟩ : BufTy).Contents (Elt Ideal)
abbrev Gain := (⟨S1x1024, .f32⟩ : BufTy).Contents (Elt Ideal)
abbrev Normed := (⟨S8192x1024, .bf16⟩ : BufTy).Contents (Elt Ideal)

/-- A row of the projection: `p` the convolution's part, `q` the attention's. -/
def mixed (p q : Fin 512 → EReal) (w : Weight) (j : Fin 1024) : EReal :=
  (∑ s : Fin 512, p s * w (ix2 ⟨s.val, by omega⟩ j)) + ∑ s : Fin 512, q s * w (ix2 ⟨512 + s.val, by omega⟩ j)

/-- The norm of a row `x` with gain `g`. -/
def norm (x g : Fin 1024 → EReal) (j : Fin 1024) : EReal := x j * factor x * g j

section Payloads

variable (p q : Vec Ideal S512x512 .bf16) (w : Vec Ideal S1024x1024 .bf16) (u v : Vec Ideal S512x1024 .bf16)
variable (x : Vec Ideal S512x1024 .f32) (g : Vec Ideal S1x1024 .f32)

theorem pay2 (a : Fin 512) (b : Fin 1024) :
    k0_pay2 p (View.ld w (Rect.unit ![0, 0] ![512, 1024] inb_S1024x1024_S512x1024_0_0))
        q (View.ld w (Rect.unit ![512, 0] ![512, 1024] inb_S1024x1024_S512x1024_512_0)) (ix2 a b)
      = mixed (fun s => p (ix2 a s)) (fun s => q (ix2 a s)) w b := by
  pointwise [k0_pay2, mixed]

theorem pay3 (a : Fin 512) (b : Fin 1024) : k0_pay3 p u q v x g (ix2 a b)
    = x (ix2 a b) + norm (fun k => k0_pay2 p u q v (ix2 a k)) (fun k => g (ix2 0 k)) b := by
  pointwise [k0_pay3, norm, factor, mean]

theorem pay4 (a : Fin 512) (b : Fin 1024) : k0_pay4 p u q v x g (ix2 a b) = factor fun k => k0_pay3 p u q v x g (ix2 a k) := by
  pointwise [k0_pay4, factor, mean]

theorem pay1 (r : Vec Ideal S512x1024 .f32) (a : Fin 512) (b : Fin 1024) :
    k0_pay1 x r g (ix2 a b) = x (ix2 a b) * r (ix2 a b) * g (ix2 0 b) := by
  pointwise [k0_pay1]

end Payloads

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The arguments on device `c`. -/
abbrev aP (c : Dev nD) : Part := m ((c : Thread nD τ).loc main_arg0)
abbrev aQ (c : Dev nD) : Part := m ((c : Thread nD τ).loc main_arg1)
abbrev aW (c : Dev nD) : Weight := m ((c : Thread nD τ).loc main_arg2)
abbrev aX (c : Dev nD) : Rows := m ((c : Thread nD τ).loc main_arg3)
abbrev aG (c : Dev nD) : Gain := m ((c : Thread nD τ).loc main_arg4)
abbrev aH (c : Dev nD) : Gain := m ((c : Thread nD τ).loc main_arg5)

section Results
variable (P Q : Part) (W : Weight) (X : Rows) (G H : Gain)

/-- Row `i` of the projection, of the residual sum and of its norm. -/
def yRow (i : Fin 8192) : Fin 1024 → EReal := mixed (fun s => P (ix2 i s)) (fun s => Q (ix2 i s)) W
def hRow (i : Fin 8192) (j : Fin 1024) : EReal := (X (ix2 i j) : EReal) + norm (yRow P Q W i) (fun k => G (ix2 0 k)) j
def nRow (i : Fin 8192) : Fin 1024 → EReal := norm (hRow P Q W X G i) (fun k => H (ix2 0 k))

/-- The three results. -/
def yA : Rows := fun j => yRow P Q W (j 0) (j 1)
def hA : Rows := fun j => hRow P Q W X G (j 0) (j 1)
def nA : Normed := fun j => nRow P Q W X G H (j 0) (j 1)

end Results

/-- The row of the array at row `r` of group `t`. -/
def row (t : Fin cfg0.N) (r : Fin 512) : Fin 8192 := ⟨t.val * 512 + r.val, by have h : t.val < 16 := t.isLt; omega⟩

section Blocks
variable (c : Dev nD) (t : Fin cfg0.N)

theorem in0 (r : Fin 512) (R : Fin 8192) (hR : R.val = t.val * 512 + r.val) (k : Fin 512) :
    (iblk m c 0 t : Vec Ideal S512x512 .bf16) (ix2 r k) = aP m c (ix2 R k) := by blk_point [iblk, V, idx t]
theorem in1 (r : Fin 512) (R : Fin 8192) (hR : R.val = t.val * 512 + r.val) (k : Fin 512) :
    (iblk m c 1 t : Vec Ideal S512x512 .bf16) (ix2 r k) = aQ m c (ix2 R k) := by blk_point [iblk, V, idx t]
theorem in2 (j : S1024x1024.Idx) : (iblk m c 2 t : Vec Ideal S1024x1024 .bf16) j = aW m c j := by blk_point [iblk, V, idx t]
theorem in3 (r : Fin 512) (R : Fin 8192) (hR : R.val = t.val * 512 + r.val) (k : Fin 1024) :
    (iblk m c 3 t : Vec Ideal S512x1024 .f32) (ix2 r k) = aX m c (ix2 R k) := by blk_point [iblk, V, idx t]
theorem in4 (j : S1x1024.Idx) : (iblk m c 4 t : Vec Ideal S1x1024 .f32) j = aG m c j := by blk_point [iblk, V, idx t]
theorem in5 (j : S1x1024.Idx) : (iblk m c 5 t : Vec Ideal S1x1024 .f32) j = aH m c j := by blk_point [iblk, V, idx t]

/-- The weight's two halves, the blocks of the projection, of the residual sum and of its norm's factor. -/
abbrev w0 : Vec Ideal S512x1024 .bf16 := View.ld (iblk m c 2 t) (Rect.unit ![0, 0] ![512, 1024] inb_S1024x1024_S512x1024_0_0)
abbrev w1 : Vec Ideal S512x1024 .bf16 := View.ld (iblk m c 2 t) (Rect.unit ![512, 0] ![512, 1024] inb_S1024x1024_S512x1024_512_0)
abbrev yblk : Vec Ideal S512x1024 .f32 := k0_pay2 (iblk m c 0 t) (w0 m c t) (iblk m c 1 t) (w1 m c t)
abbrev hblk : Vec Ideal S512x1024 .f32 := k0_pay3 (iblk m c 0 t) (w0 m c t) (iblk m c 1 t) (w1 m c t) (iblk m c 3 t) (iblk m c 4 t)
abbrev rblk : Vec Ideal S512x1024 .f32 := k0_pay4 (iblk m c 0 t) (w0 m c t) (iblk m c 1 t) (w1 m c t) (iblk m c 3 t) (iblk m c 4 t)

theorem yblk_eq (a : Fin 512) (b : Fin 1024) : yblk m c t (ix2 a b) = yRow (aP m c) (aQ m c) (aW m c) (row t a) b := by
  refine (pay2 (iblk m c 0 t) (iblk m c 1 t) (iblk m c 2 t) a b).trans ?_
  unfold yRow
  rw [funext (fun k => in0 m c t a (row t a) rfl k), funext (fun k => in1 m c t a (row t a) rfl k), funext (in2 m c t)]

theorem hblk_eq (a : Fin 512) (b : Fin 1024) : hblk m c t (ix2 a b) = hRow (aP m c) (aQ m c) (aW m c) (aX m c) (aG m c) (row t a) b := by
  refine (pay3 (iblk m c 0 t) (iblk m c 1 t) (w0 m c t) (w1 m c t) (iblk m c 3 t) (iblk m c 4 t) a b).trans ?_
  unfold hRow
  exact congrArg₂ (fun x y : EReal => x + y) (in3 m c t a (row t a) rfl b)
    (congrFun (congrArg₂ norm (funext fun k => yblk_eq m c t a k) (funext fun k => in4 m c t (ix2 0 k))) b)

theorem rblk_eq (a : Fin 512) (b : Fin 1024) : rblk m c t (ix2 a b) = factor (hRow (aP m c) (aQ m c) (aW m c) (aX m c) (aG m c) (row t a)) :=
  (pay4 (iblk m c 0 t) (iblk m c 1 t) (w0 m c t) (w1 m c t) (iblk m c 3 t) (iblk m c 4 t) a b).trans
    (congrArg factor (funext fun k => hblk_eq m c t a k))

/-- What point `t` leaves in the three results. -/
theorem point6 (j : S512x1024.Idx) : yblk m c t j = yA (aP m c) (aQ m c) (aW m c) (ix2 (row t (j 0)) (j 1)) := by
  obtain ⟨a, b, rfl⟩ : ∃ a b, j = ix2 a b := ⟨j 0, j 1, Cert.Stores.idx2_ext rfl rfl⟩
  exact yblk_eq m c t a b

theorem point7 (j : S512x1024.Idx) : hblk m c t j = hA (aP m c) (aQ m c) (aW m c) (aX m c) (aG m c) (ix2 (row t (j 0)) (j 1)) := by
  obtain ⟨a, b, rfl⟩ : ∃ a b, j = ix2 a b := ⟨j 0, j 1, Cert.Stores.idx2_ext rfl rfl⟩
  exact hblk_eq m c t a b

theorem point8 (j : S512x1024.Idx) : k0_pay1 (hblk m c t) (rblk m c t) (iblk m c 5 t) j
    = nA (aP m c) (aQ m c) (aW m c) (aX m c) (aG m c) (aH m c) (ix2 (row t (j 0)) (j 1)) := by
  obtain ⟨a, b, rfl⟩ : ∃ a b, j = ix2 a b := ⟨j 0, j 1, Cert.Stores.idx2_ext rfl rfl⟩
  refine (pay1 (hblk m c t) (iblk m c 5 t) (rblk m c t) a b).trans ?_
  exact congrArg₂ (fun x y : EReal => x * y) (congrArg₂ (fun x y : EReal => x * y) (hblk_eq m c t a b) (rblk_eq m c t a b)) (in5 m c t _)

theorem out6 (y : S512x1024.Idx) (R : Fin 8192) (hR : R.val = t.val * 512 + (y 0).val) :
    ((View.whole main_v0_0).slice (win0_6.rect t)).emb y = ix2 R (y 1) := by
  blk_ext [idx t]
theorem out7 (y : S512x1024.Idx) (R : Fin 8192) (hR : R.val = t.val * 512 + (y 0).val) :
    ((View.whole main_v0_1).slice (win0_7.rect t)).emb y = ix2 R (y 1) := by
  blk_ext [idx t]
theorem out8 (y : S512x1024.Idx) (R : Fin 8192) (hR : R.val = t.val * 512 + (y 0).val) :
    ((View.whole main_v0_2).slice (win0_8.rect t)).emb y = ix2 R (y 1) := by
  blk_ext [idx t]

end Blocks

theorem final6 (c : Dev nD) : (dats m 0 c).arrAt 6 (cfgs 0).N = yA (aP m c) (aQ m c) (aW m c) := by
  refine (dats m 0 c).arrAt_eq_of_covers 6 _ (by decide +kernel) fun t _ y => ?_
  blk_simp
  rw [after0_6]
  frame_out
  rw [out6 t y (row t (y 0)) rfl]
  exact point6 m c t y

theorem final7 (c : Dev nD) : (dats m 0 c).arrAt 7 (cfgs 0).N = hA (aP m c) (aQ m c) (aW m c) (aX m c) (aG m c) := by
  refine (dats m 0 c).arrAt_eq_of_covers 7 _ (by decide +kernel) fun t _ y => ?_
  blk_simp
  rw [after0_7]
  frame_out
  rw [out7 t y (row t (y 0)) rfl]
  exact point7 m c t y

theorem final8 (c : Dev nD) : (dats m 0 c).arrAt 8 (cfgs 0).N = nA (aP m c) (aQ m c) (aW m c) (aX m c) (aG m c) (aH m c) := by
  refine (dats m 0 c).arrAt_eq_of_covers 8 _ (by decide +kernel) fun t _ y => ?_
  blk_simp
  rw [after0_8]
  frame_out
  rw [out8 t y (row t (y 0)) rfl]
  exact point8 m c t y

section Reference

open Cert.Reference10Ideal.Read

variable (P Q : Part) (W : Weight) (X : Rows) (G H : Gain)

theorem sum_halves (f : Fin 1024 → EReal) : ∑ k, f k = (∑ s : Fin 512, f ⟨s.val, by omega⟩) + ∑ s : Fin 512, f ⟨512 + s.val, by omega⟩ := by
  rw [show (∑ k : Fin 1024, f k) = ∑ k : Fin (512 + 512), f (Fin.cast (by norm_num) k) from rfl, Fin.sum_univ_add]
  rfl

theorem ref3a (i : Fin 8192) (s : Fin 512) : val_main_v3 (F := Ideal) P Q (ix2 i ⟨s.val, by omega⟩) = P (ix2 i s) := by
  pointwise [val_main_v3, val_main_v0, val_main_v1]

theorem ref3b (i : Fin 8192) (s : Fin 512) : val_main_v3 (F := Ideal) P Q (ix2 i ⟨512 + s.val, by omega⟩) = Q (ix2 i s) := by
  pointwise [val_main_v3, val_main_v0, val_main_v1]

theorem ref4 (i : Fin 8192) (j : Fin 1024) : val_main_v4 (F := Ideal) P Q W (ix2 i j) = yRow P Q W i j := by
  have e : val_main_v4 (F := Ideal) P Q W (ix2 i j) = ∑ k : Fin 1024, (val_main_v3 (F := Ideal) P Q (ix2 i k) * W (ix2 k j) : EReal) := by
    rw [val_main_v4_apply]
    refine Finset.sum_congr rfl fun k _ => ?_
    exact congrArg₂ (fun a b : EReal => a * b) (congrArg (val_main_v3 (F := Ideal) P Q) (Cert.Stores.idx2_ext rfl rfl))
      (congrArg W (Cert.Stores.idx2_ext rfl rfl))
  rw [e, sum_halves]
  simp only [ref3a, ref3b]
  rfl

theorem ref17 (i : Fin 8192) (j : Fin 1024) : val_main_v17 (F := Ideal) P Q W X G (ix2 i j) = hRow P Q W X G i j := by
  unfold hRow norm
  rw [show yRow P Q W i = fun j => val_main_v4 (F := Ideal) P Q W (ix2 i j) from funext fun j => (ref4 P Q W i j).symm]
  pointwise [val_main_v17, val_main_v16, val_main_v15, val_main_v14, val_main_v13, val_main_v12, val_main_v11, val_main_v10, val_main_v9,
    val_main_v8, val_main_v7, val_main_v6, val_main_v5, val_main_cst, val_main_cst_0, val_main_cst_1, factor, mean]

theorem ref30 (i : Fin 8192) (j : Fin 1024) : val_main_v30 (F := Ideal) P Q W X G H (ix2 i j) = nRow P Q W X G H i j := by
  unfold nRow norm
  rw [show hRow P Q W X G i = fun j => val_main_v17 (F := Ideal) P Q W X G (ix2 i j) from funext fun j => (ref17 P Q W X G i j).symm]
  pointwise [val_main_v30, val_main_v29, val_main_v28, val_main_v27, val_main_v26, val_main_v25, val_main_v24, val_main_v23, val_main_v22,
    val_main_v21, val_main_v20, val_main_v19, val_main_v18, val_main_cst_2, val_main_cst_3, val_main_cst_4, factor, mean]

theorem ref4A : val_main_v4 (F := Ideal) P Q W = yA P Q W := by
  funext j
  obtain ⟨a, b, rfl⟩ : ∃ a b, j = ix2 a b := ⟨j 0, j 1, Cert.Stores.idx2_ext rfl rfl⟩
  exact ref4 P Q W a b

theorem ref17A : val_main_v17 (F := Ideal) P Q W X G = hA P Q W X G := by
  funext j
  obtain ⟨a, b, rfl⟩ : ∃ a b, j = ix2 a b := ⟨j 0, j 1, Cert.Stores.idx2_ext rfl rfl⟩
  exact ref17 P Q W X G a b

theorem ref30A : val_main_v30 (F := Ideal) P Q W X G H = nA P Q W X G H := by
  funext j
  obtain ⟨a, b, rfl⟩ : ∃ a b, j = ix2 a b := ⟨j 0, j 1, Cert.Stores.idx2_ext rfl rfl⟩
  exact ref30 P Q W X G H a b

end Reference

/-- Kernel and reference end with the same three arrays. -/
theorem algebraic : Cert.algebraic_Kernel10Ideal_Reference10Ideal := by
  intro m g m' g' _ hagree
  refine ⟨fun c => yA (aP m c) (aQ m c) (aW m c), fun c => hA (aP m c) (aQ m c) (aW m c) (aX m c) (aG m c),
    fun c => nA (aP m c) (aQ m c) (aW m c) (aX m c) (aG m c) (aH m c), ?_, ?_⟩
  · exact (θ_run _ _ _).mono (fun _ h c => ⟨(h c).1.trans (final6 m c), (h c).2.1.trans (final7 m c), (h c).2.2.1.trans (final8 m c), (h c).2.2.2⟩)
      (Value.run_blocks (F := Ideal) m g)
  · refine (θ_run _ _ _).mono (fun _ h c => ?_) (Cert.Reference10Ideal.Value.run (F := Ideal) m' g')
    obtain ⟨h0, h1, h2, hk⟩ := h c
    obtain ⟨e0, e1, e2, e3, e4, e5⟩ := hagree c
    rw [Cert.Reference10Ideal.Read.val_main_v4_eq, e0, e1, e2] at h0
    rw [Cert.Reference10Ideal.Read.val_main_v17_eq, e0, e1, e2, e3, e4] at h1
    rw [Cert.Reference10Ideal.Read.val_main_v30_eq, e0, e1, e2, e3, e4, e5] at h2
    exact ⟨h0.trans (ref4A _ _ _), h1.trans (ref17A _ _ _ _ _), h2.trans (ref30A _ _ _ _ _ _), hk⟩

end Cert.Kernel10Ideal.OutProj

end
-- ==== Proof.Adam.lean ====
module

public import proofs.«01_k».proof.Defs
public import proofs.«01_k».proof.Proof.Stores

/-! # An entry of the optimiser step

The gradient of an entry is the sum of the eight devices' parts; the moments and the change of the weight follow from it. -/

@[expose] public section

noncomputable section

namespace Cert.Adam

open Idealize.ShloMosaic

/-- The sum of the parts, in the order in which they are added: the device's own, then those of the others. -/
def total (l : Fin 8 → EReal) (o : EReal) : EReal := o + l 1 + l 2 + l 3 + l 4 + l 5 + l 6 + l 7

/-- The same as the device's own part and the sum of the others. -/
theorem total_eq (l : Fin 8 → EReal) (o : EReal) : total l o = o + ∑ k : Fin 7, l k.succ := by
  unfold total
  rw [Fin.sum_univ_seven]
  simp only [add_assoc]
  rfl

/-- The first moment. -/
def first (g m : EReal) : EReal := Ideal.ofBits .f32 0x3F666666#32 * m + Ideal.ofBits .f32 0x3DCCCCCD#32 * g

/-- The second moment. -/
def second (g v : EReal) : EReal := Ideal.ofBits .f32 0x3F7FBE77#32 * v + Ideal.ofBits .f32 0x3A83126F#32 * (g * g)

/-- The change of a weight. -/
def delta (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Adam

end
-- ==== Proof.SumDown.lean ====
module

public import proofs.«01_k».proof.Defs
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Stores
public import proofs.«01_k».proof.Proof.Adam

/-! # The sum of the gradient's parts and the optimiser step: the weight w_down

The kernel takes 32 rows at a time and adds the seven parts that arrived to its own one after the other; the reference adds
their sum. -/

@[expose] public section

set_option maxRecDepth 16384

noncomputable section

namespace Cert.Kernel14Ideal.SumDown

open Cert.Kernel14Ideal Cert.Kernel14Ideal.Gen Idealize.ShloMosaic Idealize.ShloMosaic.TcCoe Idealize.SL.Sem
open Idealize.ShloMosaic.Pipeline (Dat)
open Cert.Adam (total first second delta)

abbrev Parts := (⟨S8x352x1024, .f32⟩ : BufTy).Contents (Elt Ideal)
abbrev Arr := (⟨S352x1024, .f32⟩ : BufTy).Contents (Elt Ideal)

section Payloads

variable (x0 : Vec Ideal S8x32x1024 .f32) (x1 x2 x3 x4 : Vec Ideal S32x1024 .f32)

theorem sum_at (a : Fin 32) (b : Fin 1024) : k0_pay7 x0 x1 x2 x3 x4 (ix2 a b) = total (fun k => x0 (ix3 k a b)) (x1 (ix2 a b)) := by
  pointwise [k0_pay7, k0_pay4, total]

theorem out5_at (a : Fin 32) (b : Fin 1024) : out0_5 x0 x1 x2 x3 x4 (ix2 a b) = total (fun k => x0 (ix3 k a b)) (x1 (ix2 a b)) := by
  frame_out
  exact sum_at x0 x1 x2 x3 x4 a b

theorem out7_at (a : Fin 32) (b : Fin 1024) : out0_7 x0 x1 x2 x3 x4 (ix2 a b)
    = first (total (fun k => x0 (ix3 k a b)) (x1 (ix2 a b))) (x3 (ix2 a b)) := by
  rw [← sum_at x0 x1 x2 x3 x4]
  frame_out
  pointwise [k0_pay8, k0_pay9, k0_pay5, k0_pay6, k0_pay1, first]

theorem out8_at (a : Fin 32) (b : Fin 1024) : out0_8 x0 x1 x2 x3 x4 (ix2 a b)
    = second (total (fun k => x0 (ix3 k a b)) (x1 (ix2 a b))) (x4 (ix2 a b)) := by
  rw [← sum_at x0 x1 x2 x3 x4]
  frame_out
  pointwise [k0_pay2, second]

theorem out6_at (a : Fin 32) (b : Fin 1024) : out0_6 x0 x1 x2 x3 x4 (ix2 a b)
    = delta (x2 (ix2 a b)) (total (fun k => x0 (ix3 k a b)) (x1 (ix2 a b))) (x3 (ix2 a b)) (x4 (ix2 a b)) := by
  rw [← sum_at x0 x1 x2 x3 x4]
  frame_out
  pointwise [k0_pay8, k0_pay9, k0_pay5, k0_pay6, k0_pay1, k0_pay2, k0_pay3, first, second, delta]

end Payloads

section Results

variable (L : Parts) (O W M V : Arr)

/-- The four results: the gradient, the change of the weight and the two moments. -/
def gradA : Arr := fun j => total (fun k => L (ix3 k (j 0) (j 1))) (O j)
def deltaA : Arr := fun j => delta (W j) (gradA L O j) (M j) (V j)
def firstA : Arr := fun j => first (gradA L O j) (M j)
def secondA : Arr := fun j => second (gradA L O j) (V j)

end Results

variable (m : (ℓ : Loc nD τ sig) → Buf (Elt Ideal) ℓ)

/-- The arguments on device `c`. -/
abbrev aL (c : Dev nD) : Parts := m ((c : Thread nD τ).loc main_arg0)
abbrev aO (c : Dev nD) : Arr := m ((c : Thread nD τ).loc main_arg1)
abbrev aW (c : Dev nD) : Arr := m ((c : Thread nD τ).loc main_arg2)
abbrev aM (c : Dev nD) : Arr := m ((c : Thread nD τ).loc main_arg3)
abbrev aV (c : Dev nD) : Arr := m ((c : Thread nD τ).loc main_arg4)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the array at row `r` of group `t`. -/
def row (t : Fin cfg0.N) (r : Fin 32) : Fin 352 := ⟨t.val * 32 + r.val, by have h : t.val < 11 := t.isLt; omega⟩

section Blocks
variable (c : Dev nD) (t : Fin cfg0.N)

theorem in0 (k : Fin 8) (r : Fin 32) (R : Fin 352) (hR : R.val = t.val * 32 + r.val) (b : Fin 1024) :
    (iblk m c 0 t : Vec Ideal S8x32x1024 .f32) (ix3 k r b) = aL m c (ix3 k R b) := by blk_point [iblk, V, idx t]
theorem in1 (r : Fin 32) (R : Fin 352) (hR : R.val = t.val * 32 + r.val) (b : Fin 1024) :
    (iblk m c 1 t : Vec Ideal S32x1024 .f32) (ix2 r b) = aO m c (ix2 R b) := by blk_point [iblk, V, idx t]
theorem in2 (r : Fin 32) (R : Fin 352) (hR : R.val = t.val * 32 + r.val) (b : Fin 1024) :
    (iblk m c 2 t : Vec Ideal S32x1024 .f32) (ix2 r b) = aW m c (ix2 R b) := by blk_point [iblk, V, idx t]
theorem in3 (r : Fin 32) (R : Fin 352) (hR : R.val = t.val * 32 + r.val) (b : Fin 1024) :
    (iblk m c 3 t : Vec Ideal S32x1024 .f32) (ix2 r b) = aM m c (ix2 R b) := by blk_point [iblk, V, idx t]
theorem in4 (r : Fin 32) (R : Fin 352) (hR : R.val = t.val * 32 + r.val) (b : Fin 1024) :
    (iblk m c 4 t : Vec Ideal S32x1024 .f32) (ix2 r b) = aV m c (ix2 R b) := by blk_point [iblk, V, idx t]

/-- The gradient of an entry of group `t`. -/
theorem grad_eq (r : Fin 32) (b : Fin 1024) :
    total (fun k => (iblk m c 0 t : Vec Ideal S8x32x1024 .f32) (ix3 k r b)) ((iblk m c 1 t : Vec Ideal S32x1024 .f32) (ix2 r b))
      = gradA (aL m c) (aO m c) (ix2 (row t r) b) :=
  congrArg₂ total (funext fun k => in0 m c t k r (row t r) rfl b) (in1 m c t r (row t r) rfl b)

theorem out5 (y : S32x1024.Idx) (R : Fin 352) (hR : R.val = t.val * 32 + (y 0).val) :
    ((View.whole main_v0_0).slice (win0_5.rect t)).emb y = ix2 R (y 1) := by
  blk_ext [idx t]
theorem out6 (y : S32x1024.Idx) (R : Fin 352) (hR : R.val = t.val * 32 + (y 0).val) :
    ((View.whole main_v0_1).slice (win0_6.rect t)).emb y = ix2 R (y 1) := by
  blk_ext [idx t]
theorem out7 (y : S32x1024.Idx) (R : Fin 352) (hR : R.val = t.val * 32 + (y 0).val) :
    ((View.whole main_v0_2).slice (win0_7.rect t)).emb y = ix2 R (y 1) := by
  blk_ext [idx t]
theorem out8 (y : S32x1024.Idx) (R : Fin 352) (hR : R.val = t.val * 32 + (y 0).val) :
    ((View.whole main_v0_3).slice (win0_8.rect t)).emb y = ix2 R (y 1) := by
  blk_ext [idx t]

end Blocks

theorem final5 (c : Dev nD) : (dats m 0 c).arrAt 5 (cfgs 0).N = gradA (aL m c) (aO m c) := by
  refine (dats m 0 c).arrAt_eq_of_covers 5 _ (by decide +kernel) fun t _ y => ?_
  blk_simp
  rw [after0_5, out5 t y (row t (y 0)) rfl]
  obtain ⟨a, b, rfl⟩ : ∃ a b, y = ix2 a b := ⟨y 0, y 1, Cert.Stores.idx2_ext rfl rfl⟩
  exact (out5_at _ _ _ _ _ a b).trans (grad_eq m c t a b)

theorem final6 (c : Dev nD) : (dats m 0 c).arrAt 6 (cfgs 0).N = deltaA (aL m c) (aO m c) (aW m c) (aM m c) (aV m c) := by
  refine (dats m 0 c).arrAt_eq_of_covers 6 _ (by decide +kernel) fun t _ y => ?_
  blk_simp
  rw [after0_6, out6 t y (row t (y 0)) rfl]
  obtain ⟨a, b, rfl⟩ : ∃ a b, y = ix2 a b := ⟨y 0, y 1, Cert.Stores.idx2_ext rfl rfl⟩
  refine (out6_at _ _ _ _ _ a b).trans ?_
  rw [grad_eq m c t a b, in2 m c t a (row t a) rfl b, in3 m c t a (row t a) rfl b, in4 m c t a (row t a) rfl b]
  rfl

theorem final7 (c : Dev nD) : (dats m 0 c).arrAt 7 (cfgs 0).N = firstA (aL m c) (aO m c) (aM m c) := by
  refine (dats m 0 c).arrAt_eq_of_covers 7 _ (by decide +kernel) fun t _ y => ?_
  blk_simp
  rw [after0_7, out7 t y (row t (y 0)) rfl]
  obtain ⟨a, b, rfl⟩ : ∃ a b, y = ix2 a b := ⟨y 0, y 1, Cert.Stores.idx2_ext rfl rfl⟩
  refine (out7_at _ _ _ _ _ a b).trans ?_
  rw [grad_eq m c t a b, in3 m c t a (row t a) rfl b]
  rfl

theorem final8 (c : Dev nD) : (dats m 0 c).arrAt 8 (cfgs 0).N = secondA (aL m c) (aO m c) (aV m c) := by
  refine (dats m 0 c).arrAt_eq_of_covers 8 _ (by decide +kernel) fun t _ y => ?_
  blk_simp
  rw [after0_8, out8 t y (row t (y 0)) rfl]
  obtain ⟨a, b, rfl⟩ : ∃ a b, y = ix2 a b := ⟨y 0, y 1, Cert.Stores.idx2_ext rfl rfl⟩
  refine (out8_at _ _ _ _ _ a b).trans ?_
  rw [grad_eq m c t a b, in4 m c t a (row t a) rfl b]
  rfl

section Reference

open Cert.Reference14Ideal.Read

variable (L : Parts) (O W M V : Arr)

theorem ref2 : val_main_v2 (F := Ideal) L O = gradA L O := by
  funext j
  obtain ⟨a, b, rfl⟩ : ∃ a b, j = ix2 a b := ⟨j 0, j 1, Cert.Stores.idx2_ext rfl rfl⟩
  refine Eq.trans ?_ (Cert.Adam.total_eq (fun k => L (ix3 k a b)) (O (ix2 a b))).symm
  pointwise [val_main_v2, val_main_v1, val_main_v0, val_main_cst]
  exact congrArg (fun s : EReal => O (ix2 a b) + s)
    (Finset.sum_congr rfl fun x _ => congrArg (fun k => L (ix3 k a b)) (Fin.ext (Nat.add_comm 1 x.val)))

theorem ref7 : val_main_v7 (F := Ideal) L O M = firstA L O M := by
  funext j
  simp only [val_main_v7_apply, val_main_v6_apply, val_main_v5_apply, val_main_v4_apply, val_main_v3_apply, ref2]
  rfl

theorem ref13 : val_main_v13 (F := Ideal) L O V = secondA L O V := by
  funext j
  simp only [val_main_v13_apply, val_main_v12_apply, val_main_v11_apply, val_main_v10_apply, val_main_v9_apply, val_main_v8_apply, ref2]
  rfl

theorem ref26 : val_main_v26 (F := Ideal) L O W M V = deltaA L O W M V := by
  funext j
  simp only [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, ref7, ref13]
  rfl

end Reference

/-- Kernel and reference end with the same four arrays. -/
theorem algebraic : Cert.algebraic_Kernel14Ideal_Reference14Ideal := by
  intro m g m' g' _ hagree
  refine ⟨fun c => gradA (aL m c) (aO m c), fun c => deltaA (aL m c) (aO m c) (aW m c) (aM m c) (aV m c),
    fun c => firstA (aL m c) (aO m c) (aM m c), fun c => secondA (aL m c) (aO m c) (aV m c), ?_, ?_⟩
  · exact (θ_run _ _ _).mono (fun _ h c => ⟨(h c).1.trans (final5 m c), (h c).2.1.trans (final6 m c), (h c).2.2.1.trans (final7 m c),
      (h c).2.2.2.1.trans (final8 m c), (h c).2.2.2.2⟩)
      (Value.run_blocks (F := Ideal) m g)
  · refine (θ_run _ _ _).mono (fun _ h c => ?_) (Cert.Reference14Ideal.Value.run (F := Ideal) m' g')
    obtain ⟨h0, h1, h2, h3, hk⟩ := h c
    obtain ⟨e0, e1, e2, e3, e4⟩ := hagree c
    rw [Cert.Reference14Ideal.Read.val_main_v2_eq, e0, e1] at h0
    rw [Cert.Reference14Ideal.Read.val_main_v26_eq, e0, e1, e2, e3, e4] at h1
    rw [Cert.Reference14Ideal.Read.val_main_v7_eq, e0, e1, e3] at h2
    rw [Cert.Reference14Ideal.Read.val_main_v13_eq, e0, e1, e4] at h3
    exact ⟨h0.trans (ref2 _ _), h1.trans (ref26 _ _ _ _ _), h2.trans (ref7 _ _ _), h3.trans (ref13 _ _ _), hk⟩

end Cert.Kernel14Ideal.SumDown

end
-- ==== Proof.SumGate.lean ====
module

public import proofs.«01_k».proof.Defs
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Stores
public import proofs.«01_k».proof.Proof.Adam

/-! # The sum of the gradient's parts and the optimiser step: the weight w_gate (and w_up, of the same shape)

The kernel takes 128 rows at a time and adds the seven parts that arrived to its own one after the other; the reference adds
their sum. -/

@[expose] public section

set_option maxRecDepth 16384

noncomputable section

namespace Cert.Kernel13Ideal.SumGate

open Cert.Kernel13Ideal Cert.Kernel13Ideal.Gen Idealize.ShloMosaic Idealize.ShloMosaic.TcCoe Idealize.SL.Sem
open Idealize.ShloMosaic.Pipeline (Dat)
open Cert.Adam (total first second delta)

abbrev Parts := (⟨S8x1024x352, .f32⟩ : BufTy).Contents (Elt Ideal)
abbrev Arr := (⟨S1024x352, .f32⟩ : BufTy).Contents (Elt Ideal)

section Payloads

variable (x0 : Vec Ideal S8x128x352 .f32) (x1 x2 x3 x4 : Vec Ideal S128x352 .f32)

theorem sum_at (a : Fin 128) (b : Fin 352) : k0_pay7 x0 x1 x2 x3 x4 (ix2 a b) = total (fun k => x0 (ix3 k a b)) (x1 (ix2 a b)) := by
  pointwise [k0_pay7, k0_pay4, total]

theorem out5_at (a : Fin 128) (b : Fin 352) : out0_5 x0 x1 x2 x3 x4 (ix2 a b) = total (fun k => x0 (ix3 k a b)) (x1 (ix2 a b)) := by
  frame_out
  exact sum_at x0 x1 x2 x3 x4 a b

theorem out7_at (a : Fin 128) (b : Fin 352) : out0_7 x0 x1 x2 x3 x4 (ix2 a b)
    = first (total (fun k => x0 (ix3 k a b)) (x1 (ix2 a b))) (x3 (ix2 a b)) := by
  rw [← sum_at x0 x1 x2 x3 x4]
  frame_out
  pointwise [k0_pay8, k0_pay9, k0_pay5, k0_pay6, k0_pay1, first]

theorem out8_at (a : Fin 128) (b : Fin 352) : out0_8 x0 x1 x2 x3 x4 (ix2 a b)
    = second (total (fun k => x0 (ix3 k a b)) (x1 (ix2 a b))) (x4 (ix2 a b)) := by
  rw [← sum_at x0 x1 x2 x3 x4]
  frame_out
  pointwise [k0_pay2, second]

theorem out6_at (a : Fin 128) (b : Fin 352) : out0_6 x0 x1 x2 x3 x4 (ix2 a b)
    = delta (x2 (ix2 a b)) (total (fun k => x0 (ix3 k a b)) (x1 (ix2 a b))) (x3 (ix2 a b)) (x4 (ix2 a b)) := by
  rw [← sum_at x0 x1 x2 x3 x4]
  frame_out
  pointwise [k0_pay8, k0_pay9, k0_pay5, k0_pay6, k0_pay1, k0_pay2, k0_pay3, first, second, delta]

end Payloads

section Results

variable (L : Parts) (O W M V : Arr)

/-- The four results: the gradient, the change of the weight and the two moments. -/
def gradA : Arr := fun j => total (fun k => L (ix3 k (j 0) (j 1))) (O j)
def deltaA : Arr := fun j => delta (W j) (gradA L O j) (M j) (V j)
def firstA : Arr := fun j => first (gradA L O j) (M j)
def secondA : Arr := fun j => second (gradA L O j) (V j)

end Results

variable (m : (ℓ : Loc nD τ sig) → Buf (Elt Ideal) ℓ)

/-- The arguments on device `c`. -/
abbrev aL (c : Dev nD) : Parts := m ((c : Thread nD τ).loc main_arg0)
abbrev aO (c : Dev nD) : Arr := m ((c : Thread nD τ).loc main_arg1)
abbrev aW (c : Dev nD) : Arr := m ((c : Thread nD τ).loc main_arg2)
abbrev aM (c : Dev nD) : Arr := m ((c : Thread nD τ).loc main_arg3)
abbrev aV (c : Dev nD) : Arr := m ((c : Thread nD τ).loc main_arg4)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the array at row `r` of group `t`. -/
def row (t : Fin cfg0.N) (r : Fin 128) : Fin 1024 := ⟨t.val * 128 + r.val, by have h : t.val < 8 := t.isLt; omega⟩

section Blocks
variable (c : Dev nD) (t : Fin cfg0.N)

theorem in0 (k : Fin 8) (r : Fin 128) (R : Fin 1024) (hR : R.val = t.val * 128 + r.val) (b : Fin 352) :
    (iblk m c 0 t : Vec Ideal S8x128x352 .f32) (ix3 k r b) = aL m c (ix3 k R b) := by blk_point [iblk, V, idx t]
theorem in1 (r : Fin 128) (R : Fin 1024) (hR : R.val = t.val * 128 + r.val) (b : Fin 352) :
    (iblk m c 1 t : Vec Ideal S128x352 .f32) (ix2 r b) = aO m c (ix2 R b) := by blk_point [iblk, V, idx t]
theorem in2 (r : Fin 128) (R : Fin 1024) (hR : R.val = t.val * 128 + r.val) (b : Fin 352) :
    (iblk m c 2 t : Vec Ideal S128x352 .f32) (ix2 r b) = aW m c (ix2 R b) := by blk_point [iblk, V, idx t]
theorem in3 (r : Fin 128) (R : Fin 1024) (hR : R.val = t.val * 128 + r.val) (b : Fin 352) :
    (iblk m c 3 t : Vec Ideal S128x352 .f32) (ix2 r b) = aM m c (ix2 R b) := by blk_point [iblk, V, idx t]
theorem in4 (r : Fin 128) (R : Fin 1024) (hR : R.val = t.val * 128 + r.val) (b : Fin 352) :
    (iblk m c 4 t : Vec Ideal S128x352 .f32) (ix2 r b) = aV m c (ix2 R b) := by blk_point [iblk, V, idx t]

/-- The gradient of an entry of group `t`. -/
theorem grad_eq (r : Fin 128) (b : Fin 352) :
    total (fun k => (iblk m c 0 t : Vec Ideal S8x128x352 .f32) (ix3 k r b)) ((iblk m c 1 t : Vec Ideal S128x352 .f32) (ix2 r b))
      = gradA (aL m c) (aO m c) (ix2 (row t r) b) :=
  congrArg₂ total (funext fun k => in0 m c t k r (row t r) rfl b) (in1 m c t r (row t r) rfl b)

theorem out5 (y : S128x352.Idx) (R : Fin 1024) (hR : R.val = t.val * 128 + (y 0).val) :
    ((View.whole main_v0_0).slice (win0_5.rect t)).emb y = ix2 R (y 1) := by
  blk_ext [idx t]
theorem out6 (y : S128x352.Idx) (R : Fin 1024) (hR : R.val = t.val * 128 + (y 0).val) :
    ((View.whole main_v0_1).slice (win0_6.rect t)).emb y = ix2 R (y 1) := by
  blk_ext [idx t]
theorem out7 (y : S128x352.Idx) (R : Fin 1024) (hR : R.val = t.val * 128 + (y 0).val) :
    ((View.whole main_v0_2).slice (win0_7.rect t)).emb y = ix2 R (y 1) := by
  blk_ext [idx t]
theorem out8 (y : S128x352.Idx) (R : Fin 1024) (hR : R.val = t.val * 128 + (y 0).val) :
    ((View.whole main_v0_3).slice (win0_8.rect t)).emb y = ix2 R (y 1) := by
  blk_ext [idx t]

end Blocks

theorem final5 (c : Dev nD) : (dats m 0 c).arrAt 5 (cfgs 0).N = gradA (aL m c) (aO m c) := by
  refine (dats m 0 c).arrAt_eq_of_covers 5 _ (by decide +kernel) fun t _ y => ?_
  blk_simp
  rw [after0_5, out5 t y (row t (y 0)) rfl]
  obtain ⟨a, b, rfl⟩ : ∃ a b, y = ix2 a b := ⟨y 0, y 1, Cert.Stores.idx2_ext rfl rfl⟩
  exact (out5_at _ _ _ _ _ a b).trans (grad_eq m c t a b)

theorem final6 (c : Dev nD) : (dats m 0 c).arrAt 6 (cfgs 0).N = deltaA (aL m c) (aO m c) (aW m c) (aM m c) (aV m c) := by
  refine (dats m 0 c).arrAt_eq_of_covers 6 _ (by decide +kernel) fun t _ y => ?_
  blk_simp
  rw [after0_6, out6 t y (row t (y 0)) rfl]
  obtain ⟨a, b, rfl⟩ : ∃ a b, y = ix2 a b := ⟨y 0, y 1, Cert.Stores.idx2_ext rfl rfl⟩
  refine (out6_at _ _ _ _ _ a b).trans ?_
  rw [grad_eq m c t a b, in2 m c t a (row t a) rfl b, in3 m c t a (row t a) rfl b, in4 m c t a (row t a) rfl b]
  rfl

theorem final7 (c : Dev nD) : (dats m 0 c).arrAt 7 (cfgs 0).N = firstA (aL m c) (aO m c) (aM m c) := by
  refine (dats m 0 c).arrAt_eq_of_covers 7 _ (by decide +kernel) fun t _ y => ?_
  blk_simp
  rw [after0_7, out7 t y (row t (y 0)) rfl]
  obtain ⟨a, b, rfl⟩ : ∃ a b, y = ix2 a b := ⟨y 0, y 1, Cert.Stores.idx2_ext rfl rfl⟩
  refine (out7_at _ _ _ _ _ a b).trans ?_
  rw [grad_eq m c t a b, in3 m c t a (row t a) rfl b]
  rfl

theorem final8 (c : Dev nD) : (dats m 0 c).arrAt 8 (cfgs 0).N = secondA (aL m c) (aO m c) (aV m c) := by
  refine (dats m 0 c).arrAt_eq_of_covers 8 _ (by decide +kernel) fun t _ y => ?_
  blk_simp
  rw [after0_8, out8 t y (row t (y 0)) rfl]
  obtain ⟨a, b, rfl⟩ : ∃ a b, y = ix2 a b := ⟨y 0, y 1, Cert.Stores.idx2_ext rfl rfl⟩
  refine (out8_at _ _ _ _ _ a b).trans ?_
  rw [grad_eq m c t a b, in4 m c t a (row t a) rfl b]
  rfl

section Reference

open Cert.Reference13Ideal.Read

variable (L : Parts) (O W M V : Arr)

theorem ref2 : val_main_v2 (F := Ideal) L O = gradA L O := by
  funext j
  obtain ⟨a, b, rfl⟩ : ∃ a b, j = ix2 a b := ⟨j 0, j 1, Cert.Stores.idx2_ext rfl rfl⟩
  refine Eq.trans ?_ (Cert.Adam.total_eq (fun k => L (ix3 k a b)) (O (ix2 a b))).symm
  pointwise [val_main_v2, val_main_v1, val_main_v0, val_main_cst]
  exact congrArg (fun s : EReal => O (ix2 a b) + s)
    (Finset.sum_congr rfl fun x _ => congrArg (fun k => L (ix3 k a b)) (Fin.ext (Nat.add_comm 1 x.val)))

theorem ref7 : val_main_v7 (F := Ideal) L O M = firstA L O M := by
  funext j
  simp only [val_main_v7_apply, val_main_v6_apply, val_main_v5_apply, val_main_v4_apply, val_main_v3_apply, ref2]
  rfl

theorem ref13 : val_main_v13 (F := Ideal) L O V = secondA L O V := by
  funext j
  simp only [val_main_v13_apply, val_main_v12_apply, val_main_v11_apply, val_main_v10_apply, val_main_v9_apply, val_main_v8_apply, ref2]
  rfl

theorem ref26 : val_main_v26 (F := Ideal) L O W M V = deltaA L O W M V := by
  funext j
  simp only [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, ref7, ref13]
  rfl

end Reference

/-- Kernel and reference end with the same four arrays. -/
theorem algebraic : Cert.algebraic_Kernel13Ideal_Reference13Ideal := by
  intro m g m' g' _ hagree
  refine ⟨fun c => gradA (aL m c) (aO m c), fun c => deltaA (aL m c) (aO m c) (aW m c) (aM m c) (aV m c),
    fun c => firstA (aL m c) (aO m c) (aM m c), fun c => secondA (aL m c) (aO m c) (aV m c), ?_, ?_⟩
  · exact (θ_run _ _ _).mono (fun _ h c => ⟨(h c).1.trans (final5 m c), (h c).2.1.trans (final6 m c), (h c).2.2.1.trans (final7 m c),
      (h c).2.2.2.1.trans (final8 m c), (h c).2.2.2.2⟩)
      (Value.run_blocks (F := Ideal) m g)
  · refine (θ_run _ _ _).mono (fun _ h c => ?_) (Cert.Reference13Ideal.Value.run (F := Ideal) m' g')
    obtain ⟨h0, h1, h2, h3, hk⟩ := h c
    obtain ⟨e0, e1, e2, e3, e4⟩ := hagree c
    rw [Cert.Reference13Ideal.Read.val_main_v2_eq, e0, e1] at h0
    rw [Cert.Reference13Ideal.Read.val_main_v26_eq, e0, e1, e2, e3, e4] at h1
    rw [Cert.Reference13Ideal.Read.val_main_v7_eq, e0, e1, e3] at h2
    rw [Cert.Reference13Ideal.Read.val_main_v13_eq, e0, e1, e4] at h3
    exact ⟨h0.trans (ref2 _ _), h1.trans (ref26 _ _ _ _ _), h2.trans (ref7 _ _ _), h3.trans (ref13 _ _ _), hk⟩

end Cert.Kernel13Ideal.SumGate

end
-- ==== Proof.SumIn.lean ====
module

public import proofs.«01_k».proof.Defs
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Stores
public import proofs.«01_k».proof.Proof.Adam

/-! # The sum of the gradient's parts and the optimiser step: the weight w_in

The kernel takes 128 rows at a time and adds the seven parts that arrived to its own one after the other; the reference adds
their sum. -/

@[expose] public section

set_option maxRecDepth 16384

noncomputable section

namespace Cert.Kernel16Ideal.SumIn

open Cert.Kernel16Ideal Cert.Kernel16Ideal.Gen Idealize.ShloMosaic Idealize.ShloMosaic.TcCoe Idealize.SL.Sem
open Idealize.ShloMosaic.Pipeline (Dat)
open Cert.Adam (total first second delta)

abbrev Parts := (⟨S8x1024x320, .bf16⟩ : BufTy).Contents (Elt Ideal)
abbrev Arr := (⟨S1024x320, .f32⟩ : BufTy).Contents (Elt Ideal)

section Payloads

variable (x0 : Vec Ideal S8x128x320 .bf16) (x1 x2 x3 x4 : Vec Ideal S128x320 .f32)

theorem sum_at (a : Fin 128) (b : Fin 320) : k0_pay5 x0 x1 x2 x3 x4 (ix2 a b) = total (fun k => x0 (ix3 k a b)) (x1 (ix2 a b)) := by
  pointwise [k0_pay5, k0_pay4, total]

theorem out5_at (a : Fin 128) (b : Fin 320) : out0_5 x0 x1 x2 x3 x4 (ix2 a b) = total (fun k => x0 (ix3 k a b)) (x1 (ix2 a b)) := by
  frame_out
  exact sum_at x0 x1 x2 x3 x4 a b

theorem out7_at (a : Fin 128) (b : Fin 320) : out0_7 x0 x1 x2 x3 x4 (ix2 a b)
    = first (total (fun k => x0 (ix3 k a b)) (x1 (ix2 a b))) (x3 (ix2 a b)) := by
  rw [← sum_at x0 x1 x2 x3 x4]
  frame_out
  pointwise [k0_pay1, first]

theorem out8_at (a : Fin 128) (b : Fin 320) : out0_8 x0 x1 x2 x3 x4 (ix2 a b)
    = second (total (fun k => x0 (ix3 k a b)) (x1 (ix2 a b))) (x4 (ix2 a b)) := by
  rw [← sum_at x0 x1 x2 x3 x4]
  frame_out
  pointwise [k0_pay2, second]

theorem out6_at (a : Fin 128) (b : Fin 320) : out0_6 x0 x1 x2 x3 x4 (ix2 a b)
    = delta (x2 (ix2 a b)) (total (fun k => x0 (ix3 k a b)) (x1 (ix2 a b))) (x3 (ix2 a b)) (x4 (ix2 a b)) := by
  rw [← sum_at x0 x1 x2 x3 x4]
  frame_out
  pointwise [k0_pay1, k0_pay2, k0_pay3, first, second, delta]

end Payloads

section Results

variable (L : Parts) (O W M V : Arr)

/-- The four results: the gradient, the change of the weight and the two moments. -/
def gradA : Arr := fun j => total (fun k => L (ix3 k (j 0) (j 1))) (O j)
def deltaA : Arr := fun j => delta (W j) (gradA L O j) (M j) (V j)
def firstA : Arr := fun j => first (gradA L O j) (M j)
def secondA : Arr := fun j => second (gradA L O j) (V j)

end Results

variable (m : (ℓ : Loc nD τ sig) → Buf (Elt Ideal) ℓ)

/-- The arguments on device `c`. -/
abbrev aL (c : Dev nD) : Parts := m ((c : Thread nD τ).loc main_arg0)
abbrev aO (c : Dev nD) : Arr := m ((c : Thread nD τ).loc main_arg1)
abbrev aW (c : Dev nD) : Arr := m ((c : Thread nD τ).loc main_arg2)
abbrev aM (c : Dev nD) : Arr := m ((c : Thread nD τ).loc main_arg3)
abbrev aV (c : Dev nD) : Arr := m ((c : Thread nD τ).loc main_arg4)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the array at row `r` of group `t`. -/
def row (t : Fin cfg0.N) (r : Fin 128) : Fin 1024 := ⟨t.val * 128 + r.val, by have h : t.val < 8 := t.isLt; omega⟩

section Blocks
variable (c : Dev nD) (t : Fin cfg0.N)

theorem in0 (k : Fin 8) (r : Fin 128) (R : Fin 1024) (hR : R.val = t.val * 128 + r.val) (b : Fin 320) :
    (iblk m c 0 t : Vec Ideal S8x128x320 .bf16) (ix3 k r b) = aL m c (ix3 k R b) := by blk_point [iblk, V, idx t]
theorem in1 (r : Fin 128) (R : Fin 1024) (hR : R.val = t.val * 128 + r.val) (b : Fin 320) :
    (iblk m c 1 t : Vec Ideal S128x320 .f32) (ix2 r b) = aO m c (ix2 R b) := by blk_point [iblk, V, idx t]
theorem in2 (r : Fin 128) (R : Fin 1024) (hR : R.val = t.val * 128 + r.val) (b : Fin 320) :
    (iblk m c 2 t : Vec Ideal S128x320 .f32) (ix2 r b) = aW m c (ix2 R b) := by blk_point [iblk, V, idx t]
theorem in3 (r : Fin 128) (R : Fin 1024) (hR : R.val = t.val * 128 + r.val) (b : Fin 320) :
    (iblk m c 3 t : Vec Ideal S128x320 .f32) (ix2 r b) = aM m c (ix2 R b) := by blk_point [iblk, V, idx t]
theorem in4 (r : Fin 128) (R : Fin 1024) (hR : R.val = t.val * 128 + r.val) (b : Fin 320) :
    (iblk m c 4 t : Vec Ideal S128x320 .f32) (ix2 r b) = aV m c (ix2 R b) := by blk_point [iblk, V, idx t]

/-- The gradient of an entry of group `t`. -/
theorem grad_eq (r : Fin 128) (b : Fin 320) :
    total (fun k => (iblk m c 0 t : Vec Ideal S8x128x320 .bf16) (ix3 k r b)) ((iblk m c 1 t : Vec Ideal S128x320 .f32) (ix2 r b))
      = gradA (aL m c) (aO m c) (ix2 (row t r) b) :=
  congrArg₂ total (funext fun k => in0 m c t k r (row t r) rfl b) (in1 m c t r (row t r) rfl b)

theorem out5 (y : S128x320.Idx) (R : Fin 1024) (hR : R.val = t.val * 128 + (y 0).val) :
    ((View.whole main_v0_0).slice (win0_5.rect t)).emb y = ix2 R (y 1) := by
  blk_ext [idx t]
theorem out6 (y : S128x320.Idx) (R : Fin 1024) (hR : R.val = t.val * 128 + (y 0).val) :
    ((View.whole main_v0_1).slice (win0_6.rect t)).emb y = ix2 R (y 1) := by
  blk_ext [idx t]
theorem out7 (y : S128x320.Idx) (R : Fin 1024) (hR : R.val = t.val * 128 + (y 0).val) :
    ((View.whole main_v0_2).slice (win0_7.rect t)).emb y = ix2 R (y 1) := by
  blk_ext [idx t]
theorem out8 (y : S128x320.Idx) (R : Fin 1024) (hR : R.val = t.val * 128 + (y 0).val) :
    ((View.whole main_v0_3).slice (win0_8.rect t)).emb y = ix2 R (y 1) := by
  blk_ext [idx t]

end Blocks

theorem final5 (c : Dev nD) : (dats m 0 c).arrAt 5 (cfgs 0).N = gradA (aL m c) (aO m c) := by
  refine (dats m 0 c).arrAt_eq_of_covers 5 _ (by decide +kernel) fun t _ y => ?_
  blk_simp
  rw [after0_5, out5 t y (row t (y 0)) rfl]
  obtain ⟨a, b, rfl⟩ : ∃ a b, y = ix2 a b := ⟨y 0, y 1, Cert.Stores.idx2_ext rfl rfl⟩
  exact (out5_at _ _ _ _ _ a b).trans (grad_eq m c t a b)

theorem final6 (c : Dev nD) : (dats m 0 c).arrAt 6 (cfgs 0).N = deltaA (aL m c) (aO m c) (aW m c) (aM m c) (aV m c) := by
  refine (dats m 0 c).arrAt_eq_of_covers 6 _ (by decide +kernel) fun t _ y => ?_
  blk_simp
  rw [after0_6, out6 t y (row t (y 0)) rfl]
  obtain ⟨a, b, rfl⟩ : ∃ a b, y = ix2 a b := ⟨y 0, y 1, Cert.Stores.idx2_ext rfl rfl⟩
  refine (out6_at _ _ _ _ _ a b).trans ?_
  rw [grad_eq m c t a b, in2 m c t a (row t a) rfl b, in3 m c t a (row t a) rfl b, in4 m c t a (row t a) rfl b]
  rfl

theorem final7 (c : Dev nD) : (dats m 0 c).arrAt 7 (cfgs 0).N = firstA (aL m c) (aO m c) (aM m c) := by
  refine (dats m 0 c).arrAt_eq_of_covers 7 _ (by decide +kernel) fun t _ y => ?_
  blk_simp
  rw [after0_7, out7 t y (row t (y 0)) rfl]
  obtain ⟨a, b, rfl⟩ : ∃ a b, y = ix2 a b := ⟨y 0, y 1, Cert.Stores.idx2_ext rfl rfl⟩
  refine (out7_at _ _ _ _ _ a b).trans ?_
  rw [grad_eq m c t a b, in3 m c t a (row t a) rfl b]
  rfl

theorem final8 (c : Dev nD) : (dats m 0 c).arrAt 8 (cfgs 0).N = secondA (aL m c) (aO m c) (aV m c) := by
  refine (dats m 0 c).arrAt_eq_of_covers 8 _ (by decide +kernel) fun t _ y => ?_
  blk_simp
  rw [after0_8, out8 t y (row t (y 0)) rfl]
  obtain ⟨a, b, rfl⟩ : ∃ a b, y = ix2 a b := ⟨y 0, y 1, Cert.Stores.idx2_ext rfl rfl⟩
  refine (out8_at _ _ _ _ _ a b).trans ?_
  rw [grad_eq m c t a b, in4 m c t a (row t a) rfl b]
  rfl

section Reference

open Cert.Reference16Ideal.Read

variable (L : Parts) (O W M V : Arr)

theorem ref3 : val_main_v3 (F := Ideal) L O = gradA L O := by
  funext j
  obtain ⟨a, b, rfl⟩ : ∃ a b, j = ix2 a b := ⟨j 0, j 1, Cert.Stores.idx2_ext rfl rfl⟩
  refine Eq.trans ?_ (Cert.Adam.total_eq (fun k => L (ix3 k a b)) (O (ix2 a b))).symm
  pointwise [val_main_v3, val_main_v2, val_main_v1, val_main_v0, val_main_cst]
  exact congrArg (fun s : EReal => O (ix2 a b) + s)
    (Finset.sum_congr rfl fun x _ => congrArg (fun k => L (ix3 k a b)) (Fin.ext (Nat.add_comm 1 x.val)))

theorem ref8 : val_main_v8 (F := Ideal) L O M = firstA L O M := by
  funext j
  simp only [val_main_v8_apply, val_main_v7_apply, val_main_v6_apply, val_main_v5_apply, val_main_v4_apply, ref3]
  rfl

theorem ref14 : val_main_v14 (F := Ideal) L O V = secondA L O V := by
  funext j
  simp only [val_main_v14_apply, val_main_v13_apply, val_main_v12_apply, val_main_v11_apply, val_main_v10_apply, val_main_v9_apply, ref3]
  rfl

theorem ref27 : val_main_v27 (F := Ideal) L O W M V = deltaA L O W M V := by
  funext j
  simp only [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, ref8, ref14]
  rfl

end Reference

/-- Kernel and reference end with the same four arrays. -/
theorem algebraic : Cert.algebraic_Kernel16Ideal_Reference16Ideal := by
  intro m g m' g' _ hagree
  refine ⟨fun c => gradA (aL m c) (aO m c), fun c => deltaA (aL m c) (aO m c) (aW m c) (aM m c) (aV m c),
    fun c => firstA (aL m c) (aO m c) (aM m c), fun c => secondA (aL m c) (aO m c) (aV m c), ?_, ?_⟩
  · exact (θ_run _ _ _).mono (fun _ h c => ⟨(h c).1.trans (final5 m c), (h c).2.1.trans (final6 m c), (h c).2.2.1.trans (final7 m c),
      (h c).2.2.2.1.trans (final8 m c), (h c).2.2.2.2⟩)
      (Value.run_blocks (F := Ideal) m g)
  · refine (θ_run _ _ _).mono (fun _ h c => ?_) (Cert.Reference16Ideal.Value.run (F := Ideal) m' g')
    obtain ⟨h0, h1, h2, h3, hk⟩ := h c
    obtain ⟨e0, e1, e2, e3, e4⟩ := hagree c
    rw [Cert.Reference16Ideal.Read.val_main_v3_eq, e0, e1] at h0
    rw [Cert.Reference16Ideal.Read.val_main_v27_eq, e0, e1, e2, e3, e4] at h1
    rw [Cert.Reference16Ideal.Read.val_main_v8_eq, e0, e1, e3] at h2
    rw [Cert.Reference16Ideal.Read.val_main_v14_eq, e0, e1, e4] at h3
    exact ⟨h0.trans (ref3 _ _), h1.trans (ref27 _ _ _ _ _), h2.trans (ref8 _ _ _), h3.trans (ref14 _ _ _), hk⟩

end Cert.Kernel16Ideal.SumIn

end
-- ==== Proof.SumOut.lean ====
module

public import proofs.«01_k».proof.Defs
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Stores
public import proofs.«01_k».proof.Proof.Adam

/-! # The sum of the gradient's parts and the optimiser step: the weight w_out

The kernel takes 128 rows at a time and adds the seven parts that arrived to its own one after the other; the reference adds
their sum. -/

@[expose] public section

set_option maxRecDepth 16384

noncomputable section

namespace Cert.Kernel15Ideal.SumOut

open Cert.Kernel15Ideal Cert.Kernel15Ideal.Gen Idealize.ShloMosaic Idealize.ShloMosaic.TcCoe Idealize.SL.Sem
open Idealize.ShloMosaic.Pipeline (Dat)
open Cert.Adam (total first second delta)

abbrev Parts := (⟨S8x128x1024, .f32⟩ : BufTy).Contents (Elt Ideal)
abbrev Arr := (⟨S128x1024, .f32⟩ : BufTy).Contents (Elt Ideal)

section Payloads

variable (x0 : Vec Ideal S8x128x1024 .f32) (x1 x2 x3 x4 : Vec Ideal S128x1024 .f32)

theorem sum_at (a : Fin 128) (b : Fin 1024) : k0_pay7 x0 x1 x2 x3 x4 (ix2 a b) = total (fun k => x0 (ix3 k a b)) (x1 (ix2 a b)) := by
  pointwise [k0_pay7, k0_pay4, total]

theorem out5_at (a : Fin 128) (b : Fin 1024) : out0_5 x0 x1 x2 x3 x4 (ix2 a b) = total (fun k => x0 (ix3 k a b)) (x1 (ix2 a b)) := by
  frame_out
  exact sum_at x0 x1 x2 x3 x4 a b

theorem out7_at (a : Fin 128) (b : Fin 1024) : out0_7 x0 x1 x2 x3 x4 (ix2 a b)
    = first (total (fun k => x0 (ix3 k a b)) (x1 (ix2 a b))) (x3 (ix2 a b)) := by
  rw [← sum_at x0 x1 x2 x3 x4]
  frame_out
  pointwise [k0_pay8, k0_pay9, k0_pay5, k0_pay6, k0_pay1, first]

theorem out8_at (a : Fin 128) (b : Fin 1024) : out0_8 x0 x1 x2 x3 x4 (ix2 a b)
    = second (total (fun k => x0 (ix3 k a b)) (x1 (ix2 a b))) (x4 (ix2 a b)) := by
  rw [← sum_at x0 x1 x2 x3 x4]
  frame_out
  pointwise [k0_pay2, second]

theorem out6_at (a : Fin 128) (b : Fin 1024) : out0_6 x0 x1 x2 x3 x4 (ix2 a b)
    = delta (x2 (ix2 a b)) (total (fun k => x0 (ix3 k a b)) (x1 (ix2 a b))) (x3 (ix2 a b)) (x4 (ix2 a b)) := by
  rw [← sum_at x0 x1 x2 x3 x4]
  frame_out
  pointwise [k0_pay8, k0_pay9, k0_pay5, k0_pay6, k0_pay1, k0_pay2, k0_pay3, first, second, delta]

end Payloads

section Results

variable (L : Parts) (O W M V : Arr)

/-- The four results: the gradient, the change of the weight and the two moments. -/
def gradA : Arr := fun j => total (fun k => L (ix3 k (j 0) (j 1))) (O j)
def deltaA : Arr := fun j => delta (W j) (gradA L O j) (M j) (V j)
def firstA : Arr := fun j => first (gradA L O j) (M j)
def secondA : Arr := fun j => second (gradA L O j) (V j)

end Results

variable (m : (ℓ : Loc nD τ sig) → Buf (Elt Ideal) ℓ)

/-- The arguments on device `c`. -/
abbrev aL (c : Dev nD) : Parts := m ((c : Thread nD τ).loc main_arg0)
abbrev aO (c : Dev nD) : Arr := m ((c : Thread nD τ).loc main_arg1)
abbrev aW (c : Dev nD) : Arr := m ((c : Thread nD τ).loc main_arg2)
abbrev aM (c : Dev nD) : Arr := m ((c : Thread nD τ).loc main_arg3)
abbrev aV (c : Dev nD) : Arr := m ((c : Thread nD τ).loc main_arg4)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the array at row `r` of group `t`. -/
def row (t : Fin cfg0.N) (r : Fin 128) : Fin 128 := ⟨t.val * 128 + r.val, by have h : t.val < 1 := t.isLt; omega⟩

section Blocks
variable (c : Dev nD) (t : Fin cfg0.N)

theorem in0 (k : Fin 8) (r : Fin 128) (R : Fin 128) (hR : R.val = t.val * 128 + r.val) (b : Fin 1024) :
    (iblk m c 0 t : Vec Ideal S8x128x1024 .f32) (ix3 k r b) = aL m c (ix3 k R b) := by blk_point [iblk, V, idx t]
theorem in1 (r : Fin 128) (R : Fin 128) (hR : R.val = t.val * 128 + r.val) (b : Fin 1024) :
    (iblk m c 1 t : Vec Ideal S128x1024 .f32) (ix2 r b) = aO m c (ix2 R b) := by blk_point [iblk, V, idx t]
theorem in2 (r : Fin 128) (R : Fin 128) (hR : R.val = t.val * 128 + r.val) (b : Fin 1024) :
    (iblk m c 2 t : Vec Ideal S128x1024 .f32) (ix2 r b) = aW m c (ix2 R b) := by blk_point [iblk, V, idx t]
theorem in3 (r : Fin 128) (R : Fin 128) (hR : R.val = t.val * 128 + r.val) (b : Fin 1024) :
    (iblk m c 3 t : Vec Ideal S128x1024 .f32) (ix2 r b) = aM m c (ix2 R b) := by blk_point [iblk, V, idx t]
theorem in4 (r : Fin 128) (R : Fin 128) (hR : R.val = t.val * 128 + r.val) (b : Fin 1024) :
    (iblk m c 4 t : Vec Ideal S128x1024 .f32) (ix2 r b) = aV m c (ix2 R b) := by blk_point [iblk, V, idx t]

/-- The gradient of an entry of group `t`. -/
theorem grad_eq (r : Fin 128) (b : Fin 1024) :
    total (fun k => (iblk m c 0 t : Vec Ideal S8x128x1024 .f32) (ix3 k r b)) ((iblk m c 1 t : Vec Ideal S128x1024 .f32) (ix2 r b))
      = gradA (aL m c) (aO m c) (ix2 (row t r) b) :=
  congrArg₂ total (funext fun k => in0 m c t k r (row t r) rfl b) (in1 m c t r (row t r) rfl b)

theorem out5 (y : S128x1024.Idx) (R : Fin 128) (hR : R.val = t.val * 128 + (y 0).val) :
    ((View.whole main_v0_0).slice (win0_5.rect t)).emb y = ix2 R (y 1) := by
  blk_ext [idx t]
theorem out6 (y : S128x1024.Idx) (R : Fin 128) (hR : R.val = t.val * 128 + (y 0).val) :
    ((View.whole main_v0_1).slice (win0_6.rect t)).emb y = ix2 R (y 1) := by
  blk_ext [idx t]
theorem out7 (y : S128x1024.Idx) (R : Fin 128) (hR : R.val = t.val * 128 + (y 0).val) :
    ((View.whole main_v0_2).slice (win0_7.rect t)).emb y = ix2 R (y 1) := by
  blk_ext [idx t]
theorem out8 (y : S128x1024.Idx) (R : Fin 128) (hR : R.val = t.val * 128 + (y 0).val) :
    ((View.whole main_v0_3).slice (win0_8.rect t)).emb y = ix2 R (y 1) := by
  blk_ext [idx t]

end Blocks

theorem final5 (c : Dev nD) : (dats m 0 c).arrAt 5 (cfgs 0).N = gradA (aL m c) (aO m c) := by
  refine (dats m 0 c).arrAt_eq_of_covers 5 _ (by decide +kernel) fun t _ y => ?_
  blk_simp
  rw [after0_5, out5 t y (row t (y 0)) rfl]
  obtain ⟨a, b, rfl⟩ : ∃ a b, y = ix2 a b := ⟨y 0, y 1, Cert.Stores.idx2_ext rfl rfl⟩
  exact (out5_at _ _ _ _ _ a b).trans (grad_eq m c t a b)

theorem final6 (c : Dev nD) : (dats m 0 c).arrAt 6 (cfgs 0).N = deltaA (aL m c) (aO m c) (aW m c) (aM m c) (aV m c) := by
  refine (dats m 0 c).arrAt_eq_of_covers 6 _ (by decide +kernel) fun t _ y => ?_
  blk_simp
  rw [after0_6, out6 t y (row t (y 0)) rfl]
  obtain ⟨a, b, rfl⟩ : ∃ a b, y = ix2 a b := ⟨y 0, y 1, Cert.Stores.idx2_ext rfl rfl⟩
  refine (out6_at _ _ _ _ _ a b).trans ?_
  rw [grad_eq m c t a b, in2 m c t a (row t a) rfl b, in3 m c t a (row t a) rfl b, in4 m c t a (row t a) rfl b]
  rfl

theorem final7 (c : Dev nD) : (dats m 0 c).arrAt 7 (cfgs 0).N = firstA (aL m c) (aO m c) (aM m c) := by
  refine (dats m 0 c).arrAt_eq_of_covers 7 _ (by decide +kernel) fun t _ y => ?_
  blk_simp
  rw [after0_7, out7 t y (row t (y 0)) rfl]
  obtain ⟨a, b, rfl⟩ : ∃ a b, y = ix2 a b := ⟨y 0, y 1, Cert.Stores.idx2_ext rfl rfl⟩
  refine (out7_at _ _ _ _ _ a b).trans ?_
  rw [grad_eq m c t a b, in3 m c t a (row t a) rfl b]
  rfl

theorem final8 (c : Dev nD) : (dats m 0 c).arrAt 8 (cfgs 0).N = secondA (aL m c) (aO m c) (aV m c) := by
  refine (dats m 0 c).arrAt_eq_of_covers 8 _ (by decide +kernel) fun t _ y => ?_
  blk_simp
  rw [after0_8, out8 t y (row t (y 0)) rfl]
  obtain ⟨a, b, rfl⟩ : ∃ a b, y = ix2 a b := ⟨y 0, y 1, Cert.Stores.idx2_ext rfl rfl⟩
  refine (out8_at _ _ _ _ _ a b).trans ?_
  rw [grad_eq m c t a b, in4 m c t a (row t a) rfl b]
  rfl

section Reference

open Cert.Reference15Ideal.Read

variable (L : Parts) (O W M V : Arr)

theorem ref2 : val_main_v2 (F := Ideal) L O = gradA L O := by
  funext j
  obtain ⟨a, b, rfl⟩ : ∃ a b, j = ix2 a b := ⟨j 0, j 1, Cert.Stores.idx2_ext rfl rfl⟩
  refine Eq.trans ?_ (Cert.Adam.total_eq (fun k => L (ix3 k a b)) (O (ix2 a b))).symm
  pointwise [val_main_v2, val_main_v1, val_main_v0, val_main_cst]
  exact congrArg (fun s : EReal => O (ix2 a b) + s)
    (Finset.sum_congr rfl fun x _ => congrArg (fun k => L (ix3 k a b)) (Fin.ext (Nat.add_comm 1 x.val)))

theorem ref7 : val_main_v7 (F := Ideal) L O M = firstA L O M := by
  funext j
  simp only [val_main_v7_apply, val_main_v6_apply, val_main_v5_apply, val_main_v4_apply, val_main_v3_apply, ref2]
  rfl

theorem ref13 : val_main_v13 (F := Ideal) L O V = secondA L O V := by
  funext j
  simp only [val_main_v13_apply, val_main_v12_apply, val_main_v11_apply, val_main_v10_apply, val_main_v9_apply, val_main_v8_apply, ref2]
  rfl

theorem ref26 : val_main_v26 (F := Ideal) L O W M V = deltaA L O W M V := by
  funext j
  simp only [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, ref7, ref13]
  rfl

end Reference

/-- Kernel and reference end with the same four arrays. -/
theorem algebraic : Cert.algebraic_Kernel15Ideal_Reference15Ideal := by
  intro m g m' g' _ hagree
  refine ⟨fun c => gradA (aL m c) (aO m c), fun c => deltaA (aL m c) (aO m c) (aW m c) (aM m c) (aV m c),
    fun c => firstA (aL m c) (aO m c) (aM m c), fun c => secondA (aL m c) (aO m c) (aV m c), ?_, ?_⟩
  · exact (θ_run _ _ _).mono (fun _ h c => ⟨(h c).1.trans (final5 m c), (h c).2.1.trans (final6 m c), (h c).2.2.1.trans (final7 m c),
      (h c).2.2.2.1.trans (final8 m c), (h c).2.2.2.2⟩)
      (Value.run_blocks (F := Ideal) m g)
  · refine (θ_run _ _ _).mono (fun _ h c => ?_) (Cert.Reference15Ideal.Value.run (F := Ideal) m' g')
    obtain ⟨h0, h1, h2, h3, hk⟩ := h c
    obtain ⟨e0, e1, e2, e3, e4⟩ := hagree c
    rw [Cert.Reference15Ideal.Read.val_main_v2_eq, e0, e1] at h0
    rw [Cert.Reference15Ideal.Read.val_main_v26_eq, e0, e1, e2, e3, e4] at h1
    rw [Cert.Reference15Ideal.Read.val_main_v7_eq, e0, e1, e3] at h2
    rw [Cert.Reference15Ideal.Read.val_main_v13_eq, e0, e1, e4] at h3
    exact ⟨h0.trans (ref2 _ _), h1.trans (ref26 _ _ _ _ _), h2.trans (ref7 _ _ _), h3.trans (ref13 _ _ _), hk⟩

end Cert.Kernel15Ideal.SumOut

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Pre_finite
public import proofs.«01_k».proof.Proof.AdamwConv
public import proofs.«01_k».proof.Proof.AdamwSmall
public import proofs.«01_k».proof.Proof.FfnBwd
public import proofs.«01_k».proof.Proof.FfnFwdLoss
public import proofs.«01_k».proof.Proof.GradDown
public import proofs.«01_k».proof.Proof.GradGate
public import proofs.«01_k».proof.Proof.GradIn
public import proofs.«01_k».proof.Proof.GradOut
public import proofs.«01_k».proof.Proof.InProj
public import proofs.«01_k».proof.Proof.InProjBwd
public import proofs.«01_k».proof.Proof.MixBwd
public import proofs.«01_k».proof.Proof.OutProj
public import proofs.«01_k».proof.Proof.SumDown
public import proofs.«01_k».proof.Proof.SumGate
public import proofs.«01_k».proof.Proof.SumIn
public import proofs.«01_k».proof.Proof.SumOut
public import Idealize.ShloMosaic.Adequacy
public import Idealize.ShloMosaic.Init

@[expose] public section

noncomputable section

namespace Cert.Proof

open Idealize.ShloMosaic Idealize.ShloMosaic.TcCoe Idealize.SL.Sem

/-- The reference ReferenceIdeal runs, leaves its arguments as they were and every semaphore at zero. -/
theorem frame_ReferenceIdeal : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The reference Reference2Ideal runs, leaves its arguments as they were and every semaphore at zero. -/
theorem frame_Reference2Ideal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The reference Reference3Ideal runs, leaves its arguments as they were and every semaphore at zero. -/
theorem frame_Reference3Ideal : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The reference Reference4Ideal runs, leaves its arguments as they were and every semaphore at zero. -/
theorem frame_Reference4Ideal : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The reference Reference5Ideal runs, leaves its arguments as they were and every semaphore at zero. -/
theorem frame_Reference5Ideal : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The reference Reference6Ideal runs, leaves its arguments as they were and every semaphore at zero. -/
theorem frame_Reference6Ideal : Cert.quiescent_Reference6Ideal := fun m ρ _ =>
  (θ_run Cert.Reference6Ideal.defs _ _).mono
    (fun r h => ⟨fun c => (h c).2.2.2.2.2.2.2, Idealize.ShloMosaic.sem_eq_zero_of_no_sems (by decide) r.2⟩)
    (Cert.Reference6Ideal.Value.run (F := Ideal) m ρ)

/-- The reference Reference7Ideal runs, leaves its arguments as they were and every semaphore at zero. -/
theorem frame_Reference7Ideal : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The reference Reference8Ideal runs, leaves its arguments as they were and every semaphore at zero. -/
theorem frame_Reference8Ideal : Cert.quiescent_Reference8Ideal := fun m ρ _ =>
  (θ_run Cert.Reference8Ideal.defs _ _).mono
    (fun r h => ⟨fun c => (h c).2.2.2.2.2.2, Idealize.ShloMosaic.sem_eq_zero_of_no_sems (by decide) r.2⟩)
    (Cert.Reference8Ideal.Value.run (F := Ideal) m ρ)

/-- The reference Reference9Ideal runs, leaves its arguments as they were and every semaphore at zero. -/
theorem frame_Reference9Ideal : Cert.quiescent_Reference9Ideal := fun m ρ _ =>
  (θ_run Cert.Reference9Ideal.defs _ _).mono
    (fun r h => ⟨fun c => (h c).2.2.2, Idealize.ShloMosaic.sem_eq_zero_of_no_sems (by decide) r.2⟩)
    (Cert.Reference9Ideal.Value.run (F := Ideal) m ρ)

/-- The reference Reference10Ideal runs, leaves its arguments as they were and every semaphore at zero. -/
theorem frame_Reference10Ideal : Cert.quiescent_Reference10Ideal := fun m ρ _ =>
  (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

/-- The reference Reference11Ideal runs, leaves its arguments as they were and every semaphore at zero. -/
theorem frame_Reference11Ideal : Cert.quiescent_Reference11Ideal := fun m ρ _ =>
  (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The reference Reference12Ideal runs, leaves its arguments as they were and every semaphore at zero. -/
theorem frame_Reference12Ideal : Cert.quiescent_Reference12Ideal := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m ρ)

/-- The reference Reference13Ideal runs, leaves its arguments as they were and every semaphore at zero. -/
theorem frame_Reference13Ideal : Cert.quiescent_Reference13Ideal := fun m ρ _ =>
  (θ_run Cert.Reference13Ideal.defs _ _).mono
    (fun r h => ⟨fun c => (h c).2.2.2.2, Idealize.ShloMosaic.sem_eq_zero_of_no_sems (by decide) r.2⟩)
    (Cert.Reference13Ideal.Value.run (F := Ideal) m ρ)

/-- The reference Reference14Ideal runs, leaves its arguments as they were and every semaphore at zero. -/
theorem frame_Reference14Ideal : Cert.quiescent_Reference14Ideal := fun m ρ _ =>
  (θ_run Cert.Reference14Ideal.defs _ _).mono
    (fun r h => ⟨fun c => (h c).2.2.2.2, Idealize.ShloMosaic.sem_eq_zero_of_no_sems (by decide) r.2⟩)
    (Cert.Reference14Ideal.Value.run (F := Ideal) m ρ)

/-- The reference Reference15Ideal runs, leaves its arguments as they were and every semaphore at zero. -/
theorem frame_Reference15Ideal : Cert.quiescent_Reference15Ideal := fun m ρ _ =>
  (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

/-- The reference Reference16Ideal runs, leaves its arguments as they were and every semaphore at zero. -/
theorem frame_Reference16Ideal : Cert.quiescent_Reference16Ideal := fun m ρ _ =>
  (θ_run Cert.Reference16Ideal.defs _ _).mono
    (fun r h => ⟨fun c => (h c).2.2.2.2, Idealize.ShloMosaic.sem_eq_zero_of_no_sems (by decide) r.2⟩)
    (Cert.Reference16Ideal.Value.run (F := Ideal) m ρ)

/-- Every claim of the statement. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Kernel18.Gen.facts, Cert.Kernel18Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => frame_ReferenceIdeal m ρ trivial,
  fun m ρ _ => frame_ReferenceIdeal m ρ trivial,
  fun m ρ _ => Cert.Kernel2.Gen.frame m ρ,
  fun m ρ _ => Cert.Kernel2Ideal.Gen.frame m ρ,
  fun m ρ _ => frame_Reference2Ideal m ρ trivial,
  fun m ρ _ => Cert.Kernel3.Gen.frame m ρ,
  fun m ρ _ => Cert.Kernel3Ideal.Gen.frame m ρ,
  fun m ρ _ => frame_Reference3Ideal m ρ trivial,
  fun m ρ _ => Cert.Kernel4.Gen.frame m ρ,
  fun m ρ _ => Cert.Kernel4Ideal.Gen.frame m ρ,
  fun m ρ _ => frame_Reference4Ideal m ρ trivial,
  fun m ρ _ => Cert.Kernel5.Gen.frame m ρ,
  fun m ρ _ => Cert.Kernel5Ideal.Gen.frame m ρ,
  fun m ρ _ => frame_Reference5Ideal m ρ trivial,
  fun m ρ _ => Cert.Kernel6.Gen.frame m ρ,
  fun m ρ _ => Cert.Kernel6Ideal.Gen.frame m ρ,
  fun m ρ _ => frame_Reference6Ideal m ρ trivial,
  fun m ρ _ => Cert.Kernel7.Gen.frame m ρ,
  fun m ρ _ => Cert.Kernel7Ideal.Gen.frame m ρ,
  fun m ρ _ => frame_Reference7Ideal m ρ trivial,
  fun m ρ _ => Cert.Kernel8.Gen.frame m ρ,
  fun m ρ _ => Cert.Kernel8Ideal.Gen.frame m ρ,
  fun m ρ _ => frame_Reference8Ideal m ρ trivial,
  fun m ρ _ => Cert.Kernel9.Gen.frame m ρ,
  fun m ρ _ => Cert.Kernel9Ideal.Gen.frame m ρ,
  fun m ρ _ => frame_Reference9Ideal m ρ trivial,
  fun m ρ _ => Cert.Kernel10.Gen.frame m ρ,
  fun m ρ _ => Cert.Kernel10Ideal.Gen.frame m ρ,
  fun m ρ _ => frame_Reference10Ideal m ρ trivial,
  fun m ρ _ => Cert.Kernel11.Gen.frame m ρ,
  fun m ρ _ => Cert.Kernel11Ideal.Gen.frame m ρ,
  fun m ρ _ => frame_Reference11Ideal m ρ trivial,
  fun m ρ _ => Cert.Kernel12.Gen.frame m ρ,
  fun m ρ _ => Cert.Kernel12Ideal.Gen.frame m ρ,
  fun m ρ _ => frame_Reference12Ideal m ρ trivial,
  fun m ρ _ => Cert.Kernel13.Gen.frame m ρ,
  fun m ρ _ => Cert.Kernel13Ideal.Gen.frame m ρ,
  fun m ρ _ => frame_Reference13Ideal m ρ trivial,
  fun m ρ _ => Cert.Kernel14.Gen.frame m ρ,
  fun m ρ _ => Cert.Kernel14Ideal.Gen.frame m ρ,
  fun m ρ _ => frame_Reference14Ideal m ρ trivial,
  fun m ρ _ => Cert.Kernel15.Gen.frame m ρ,
  fun m ρ _ => Cert.Kernel15Ideal.Gen.frame m ρ,
  fun m ρ _ => frame_Reference15Ideal m ρ trivial,
  fun m ρ _ => Cert.Kernel16.Gen.frame m ρ,
  fun m ρ _ => Cert.Kernel16Ideal.Gen.frame m ρ,
  fun m ρ _ => frame_Reference16Ideal m ρ trivial,
  fun m ρ _ => Cert.Kernel17.Gen.frame m ρ,
  fun m ρ _ => Cert.Kernel17Ideal.Gen.frame m ρ,
  fun m ρ _ => Cert.Kernel18.Gen.frame m ρ,
  fun m ρ _ => Cert.Kernel18Ideal.Gen.frame m ρ,
  trivial,
  Cert.KernelIdeal.FfnBwd.algebraic,
  trivial,
  Cert.Kernel2Ideal.GradDown.algebraic,
  trivial,
  Cert.Kernel3Ideal.GradGate.algebraic,
  trivial,
  Cert.Kernel4Ideal.InProjBwd.algebraic,
  trivial,
  Cert.Kernel5Ideal.GradIn.algebraic,
  trivial,
  Cert.Kernel6Ideal.MixBwd.algebraic,
  trivial,
  Cert.Kernel7Ideal.GradOut.algebraic,
  trivial,
  Cert.Kernel8Ideal.FfnFwdLoss.algebraic,
  trivial,
  Cert.Kernel9Ideal.InProj.algebraic,
  trivial,
  Cert.Kernel10Ideal.OutProj.algebraic,
  trivial,
  Cert.Kernel11Ideal.AdamwSmall.algebraic,
  trivial,
  Cert.Kernel12Ideal.AdamwConv.algebraic,
  trivial,
  Cert.Kernel13Ideal.SumGate.algebraic,
  trivial,
  Cert.Kernel14Ideal.SumDown.algebraic,
  trivial,
  Cert.Kernel15Ideal.SumOut.algebraic,
  trivial,
  Cert.Kernel16Ideal.SumIn.algebraic,
  trivial,
  trivial⟩

end Cert.Proof

end
